-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v29_0) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x3072x3328 : Shape := ⟨3, ![8, 3072, 3328]⟩
abbrev S4992x3328 : Shape := ⟨2, ![4992, 3328]⟩
abbrev S4992x52 : Shape := ⟨2, ![4992, 52]⟩
abbrev S_ : Shape := ⟨0, ![]⟩

class Facts : Prop where
  bitsLt_bf16_f32 : FTy.bits .bf16 < FTy.bits .f32
  bcast_S_S8x3072x3328 : S_.BroadcastsInDim S8x3072x3328 (![] : Fin 0 → Fin S8x3072x3328.rank)

variable [Facts]

def fn {F : FTy → Type} [FloatOps F] (main_arg0 : FVec F S8x3072x3328 .bf16) (main_arg1 : FVec F S4992x3328 .fp8e4m3) (main_arg2 : FVec F S4992x52 .f32) : IVec S8x3072x3328 1 :=
  let main_v0 : FVec F S8x3072x3328 .f32 := (extf .f32 · bitsLt_bf16_f32) main_arg0
  let main_v1 : FVec F S8x3072x3328 .f32 := Host.absf main_v0
  let main_cst : FVec F S_ .f32 := constant S_ .f32 0x7F7F0000#32
  let main_v2 : FVec F S8x3072x3328 .f32 := broadcastInDim S8x3072x3328 ![] bcast_S_S8x3072x3328 main_cst
  let main_v3 : IVec S8x3072x3328 1 := cmpf .ole main_v1 main_v2
  main_v3
-- ==== Kernel.lean ====
abbrev S8x3072x3328 : Shape := ⟨3, ![8, 3072, 3328]⟩
abbrev S4992x3328 : Shape := ⟨2, ![4992, 3328]⟩
abbrev S4992x52 : Shape := ⟨2, ![4992, 52]⟩
abbrev S_ : Shape := ⟨0, ![]⟩
abbrev S4992x128 : Shape := ⟨2, ![4992, 128]⟩
abbrev S24576x3328 : Shape := ⟨2, ![24576, 3328]⟩
abbrev S24576x4992 : Shape := ⟨2, ![24576, 4992]⟩
abbrev S24576x52 : Shape := ⟨2, ![24576, 52]⟩
abbrev S256x3328 : Shape := ⟨2, ![256, 3328]⟩
abbrev S256x4992 : Shape := ⟨2, ![256, 4992]⟩
abbrev S256x52 : Shape := ⟨2, ![256, 52]⟩
abbrev S32x128 : Shape := ⟨2, ![32, 128]⟩
abbrev S32x128x1 : Shape := ⟨3, ![32, 128, 1]⟩
abbrev S32x52 : Shape := ⟨2, ![32, 52]⟩
abbrev S1024x3328 : Shape := ⟨2, ![1024, 3328]⟩
abbrev S256x1024 : Shape := ⟨2, ![256, 1024]⟩
abbrev S896x3328 : Shape := ⟨2, ![896, 3328]⟩
abbrev S256x896 : Shape := ⟨2, ![256, 896]⟩

abbrev nBuf : Space → Nat
  | .hbm => 10
  | .vmem => 12
  | .smem => 0
  | _ => 0

abbrev bufTy : (tb : Table) → Fin (tcTables nBuf tb) → BufTy
  | .hbm, ⟨0, _⟩ => ⟨S8x3072x3328, .bf16⟩
  | .hbm, ⟨1, _⟩ => ⟨S4992x3328, .fp8e4m3⟩
  | .hbm, ⟨2, _⟩ => ⟨S4992x52, .f32⟩
  | .hbm, ⟨3, _⟩ => ⟨S_, .i32⟩
  | .hbm, ⟨4, _⟩ => ⟨S_, .f32⟩
  | .hbm, ⟨5, _⟩ => ⟨S4992x128, .f32⟩
  | .hbm, ⟨6, _⟩ => ⟨S24576x3328, .bf16⟩
  | .hbm, ⟨7, _⟩ => ⟨S24576x4992, .bf16⟩
  | .hbm, ⟨8, _⟩ => ⟨S24576x3328, .fp8e4m3⟩
  | .hbm, ⟨9, _⟩ => ⟨S24576x52, .f32⟩
  | .local _ .vmem, ⟨0, _⟩ => ⟨S256x3328, .bf16⟩
  | .local _ .vmem, ⟨1, _⟩ => ⟨S256x3328, .bf16⟩
  | .local _ .vmem, ⟨2, _⟩ => ⟨S4992x3328, .fp8e4m3⟩
  | .local _ .vmem, ⟨3, _⟩ => ⟨S4992x128, .f32⟩
  | .local _ .vmem, ⟨4, _⟩ => ⟨S256x4992, .bf16⟩
  | .local _ .vmem, ⟨5, _⟩ => ⟨S256x4992, .bf16⟩
  | .local _ .vmem, ⟨6, _⟩ => ⟨S256x3328, .fp8e4m3⟩
  | .local _ .vmem, ⟨7, _⟩ => ⟨S256x3328, .fp8e4m3⟩
  | .local _ .vmem, ⟨8, _⟩ => ⟨S256x52, .f32⟩
  | .local _ .vmem, ⟨9, _⟩ => ⟨S256x52, .f32⟩
  | .local _ .vmem, ⟨10, _⟩ => ⟨S4992x3328, .bf16⟩
  | .local _ .vmem, ⟨11, _⟩ => ⟨S256x3328, .bf16⟩
  | _, _ => ⟨S8x3072x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_32 : BitVec 32 := 0#32
  let c156_i32 : BitVec 32 := 156#32
  let v29 : BitVec 32 := Scalar.addi c0_i32_32 c156_i32
  let c1_i32_33 : BitVec 32 := 1#32
  ⟨c0_i32_32, v29, c1_i32_33⟩
def k0_mult1 (k0_t1 : Fin k0_t1_loop.trips) : BitVec 32 :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  v30
def k0_off1 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v33 : Index := Scalar.indexCast v31
  let c0_35 : Index := 0#32
  ![v33.toNat, 0]
def k0_off2 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v49 : Index := Scalar.indexCast v31
  let c0_38 : Index := 0#32
  ![v49.toNat, 0]
def k0_off3 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v70 : Index := Scalar.indexCast v31
  let c128 : Index := 128#32
  ![v70.toNat, 128]
def k0_off4 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v91 : Index := Scalar.indexCast v31
  let c256 : Index := 256#32
  ![v91.toNat, 256]
def k0_off5 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v112 : Index := Scalar.indexCast v31
  let c384 : Index := 384#32
  ![v112.toNat, 384]
def k0_off6 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v133 : Index := Scalar.indexCast v31
  let c512 : Index := 512#32
  ![v133.toNat, 512]
def k0_off7 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v154 : Index := Scalar.indexCast v31
  let c640 : Index := 640#32
  ![v154.toNat, 640]
def k0_off8 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v175 : Index := Scalar.indexCast v31
  let c768 : Index := 768#32
  ![v175.toNat, 768]
def k0_off9 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v196 : Index := Scalar.indexCast v31
  let c896 : Index := 896#32
  ![v196.toNat, 896]
def k0_off10 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v217 : Index := Scalar.indexCast v31
  let c1024_73 : Index := 1024#32
  ![v217.toNat, 1024]
def k0_off11 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v238 : Index := Scalar.indexCast v31
  let c1152 : Index := 1152#32
  ![v238.toNat, 1152]
def k0_off12 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v259 : Index := Scalar.indexCast v31
  let c1280 : Index := 1280#32
  ![v259.toNat, 1280]
def k0_off13 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v280 : Index := Scalar.indexCast v31
  let c1408 : Index := 1408#32
  ![v280.toNat, 1408]
def k0_off14 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v301 : Index := Scalar.indexCast v31
  let c1536 : Index := 1536#32
  ![v301.toNat, 1536]
def k0_off15 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v322 : Index := Scalar.indexCast v31
  let c1664 : Index := 1664#32
  ![v322.toNat, 1664]
def k0_off16 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v343 : Index := Scalar.indexCast v31
  let c1792 : Index := 1792#32
  ![v343.toNat, 1792]
def k0_off17 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v364 : Index := Scalar.indexCast v31
  let c1920 : Index := 1920#32
  ![v364.toNat, 1920]
def k0_off18 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v385 : Index := Scalar.indexCast v31
  let c2048_107 : Index := 2048#32
  ![v385.toNat, 2048]
def k0_off19 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v406 : Index := Scalar.indexCast v31
  let c2176 : Index := 2176#32
  ![v406.toNat, 2176]
def k0_off20 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v427 : Index := Scalar.indexCast v31
  let c2304 : Index := 2304#32
  ![v427.toNat, 2304]
def k0_off21 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v448 : Index := Scalar.indexCast v31
  let c2432 : Index := 2432#32
  ![v448.toNat, 2432]
def k0_off22 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v469 : Index := Scalar.indexCast v31
  let c2560 : Index := 2560#32
  ![v469.toNat, 2560]
def k0_off23 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v490 : Index := Scalar.indexCast v31
  let c2688 : Index := 2688#32
  ![v490.toNat, 2688]
def k0_off24 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v511 : Index := Scalar.indexCast v31
  let c2816 : Index := 2816#32
  ![v511.toNat, 2816]
def k0_off25 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v532 : Index := Scalar.indexCast v31
  let c2944 : Index := 2944#32
  ![v532.toNat, 2944]
def k0_off26 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v553 : Index := Scalar.indexCast v31
  let c3072_140 : Index := 3072#32
  ![v553.toNat, 3072]
def k0_off27 (k0_t1 : Fin k0_t1_loop.trips) : Fin 2 → Nat :=
  let c0_i32_32 : BitVec 32 := 0#32
  let c1_i32_33 : BitVec 32 := 1#32
  let arg9 : BitVec 32 := Scf.iv c0_i32_32 c1_i32_33 k0_t1
  let c32_i32 : BitVec 32 := 32#32
  let v30 : BitVec 32 := Scalar.muli arg9 c32_i32
  let v31 : BitVec 32 := v30
  let v574 : Index := Scalar.indexCast v31
  let c3200 : Index := 3200#32
  ![v574.toNat, 3200]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  v29
def k0_off28 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v32 : Index := Scalar.indexCast v30
  let c0_32 : Index := 0#32
  ![v32.toNat, 0]
def k0_off29 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v35 : Index := Scalar.indexCast v30
  let c128 : Index := 128#32
  ![v35.toNat, 128]
def k0_off30 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v38 : Index := Scalar.indexCast v30
  let c256 : Index := 256#32
  ![v38.toNat, 256]
def k0_off31 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v41 : Index := Scalar.indexCast v30
  let c384 : Index := 384#32
  ![v41.toNat, 384]
def k0_off32 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v44 : Index := Scalar.indexCast v30
  let c512 : Index := 512#32
  ![v44.toNat, 512]
def k0_off33 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v47 : Index := Scalar.indexCast v30
  let c640 : Index := 640#32
  ![v47.toNat, 640]
def k0_off34 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v50 : Index := Scalar.indexCast v30
  let c768 : Index := 768#32
  ![v50.toNat, 768]
def k0_off35 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v53 : Index := Scalar.indexCast v30
  let c896 : Index := 896#32
  ![v53.toNat, 896]
def k0_off36 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v56 : Index := Scalar.indexCast v30
  let c1024_33 : Index := 1024#32
  ![v56.toNat, 1024]
def k0_off37 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v59 : Index := Scalar.indexCast v30
  let c1152 : Index := 1152#32
  ![v59.toNat, 1152]
def k0_off38 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v62 : Index := Scalar.indexCast v30
  let c1280 : Index := 1280#32
  ![v62.toNat, 1280]
def k0_off39 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v65 : Index := Scalar.indexCast v30
  let c1408 : Index := 1408#32
  ![v65.toNat, 1408]
def k0_off40 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v68 : Index := Scalar.indexCast v30
  let c1536 : Index := 1536#32
  ![v68.toNat, 1536]
def k0_off41 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v71 : Index := Scalar.indexCast v30
  let c1664 : Index := 1664#32
  ![v71.toNat, 1664]
def k0_off42 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v74 : Index := Scalar.indexCast v30
  let c1792 : Index := 1792#32
  ![v74.toNat, 1792]
def k0_off43 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v77 : Index := Scalar.indexCast v30
  let c1920 : Index := 1920#32
  ![v77.toNat, 1920]
def k0_off44 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v80 : Index := Scalar.indexCast v30
  let c2048_34 : Index := 2048#32
  ![v80.toNat, 2048]
def k0_off45 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v83 : Index := Scalar.indexCast v30
  let c2176 : Index := 2176#32
  ![v83.toNat, 2176]
def k0_off46 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v86 : Index := Scalar.indexCast v30
  let c2304 : Index := 2304#32
  ![v86.toNat, 2304]
def k0_off47 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v89 : Index := Scalar.indexCast v30
  let c2432 : Index := 2432#32
  ![v89.toNat, 2432]
def k0_off48 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v92 : Index := Scalar.indexCast v30
  let c2560 : Index := 2560#32
  ![v92.toNat, 2560]
def k0_off49 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v95 : Index := Scalar.indexCast v30
  let c2688 : Index := 2688#32
  ![v95.toNat, 2688]
def k0_off50 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v98 : Index := Scalar.indexCast v30
  let c2816 : Index := 2816#32
  ![v98.toNat, 2816]
def k0_off51 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v101 : Index := Scalar.indexCast v30
  let c2944 : Index := 2944#32
  ![v101.toNat, 2944]
def k0_off52 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v104 : Index := Scalar.indexCast v30
  let c3072_35 : Index := 3072#32
  ![v104.toNat, 3072]
def k0_off53 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v107 : Index := Scalar.indexCast v30
  let c3200 : Index := 3200#32
  ![v107.toNat, 3200]
def k0_off54 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c32_i32 : BitVec 32 := 32#32
  let v29 : BitVec 32 := Scalar.muli arg9 c32_i32
  let v30 : BitVec 32 := v29
  let v637 : Index := Scalar.indexCast v30
  let c0_144 : Index := 0#32
  ![v637.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4992x3328 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4992x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4992 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3328 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x52 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x3072x3328 : Shape := ⟨3, ![8, 3072, 3328]⟩
abbrev S4992x3328 : Shape := ⟨2, ![4992, 3328]⟩
abbrev S4992x52 : Shape := ⟨2, ![4992, 52]⟩
abbrev S24576x52x64 : Shape := ⟨3, ![24576, 52, 64]⟩
abbrev S_ : Shape := ⟨0, ![]⟩
abbrev S24576x52 : Shape := ⟨2, ![24576, 52]⟩
abbrev S253 : Shape := ⟨1, ![253]⟩
abbrev S24576x52x1 : Shape := ⟨3, ![24576, 52, 1]⟩
abbrev S1x1x253 : Shape := ⟨3, ![1, 1, 253]⟩
abbrev S24576x52x253 : Shape := ⟨3, ![24576, 52, 253]⟩
abbrev S24576x3328 : Shape := ⟨2, ![24576, 3328]⟩
abbrev S4992x52x64 : Shape := ⟨3, ![4992, 52, 64]⟩
abbrev S4992x52x1 : Shape := ⟨3, ![4992, 52, 1]⟩
abbrev S24576x4992 : Shape := ⟨2, ![24576, 4992]⟩

abbrev nBuf : Space → Nat
  | .hbm => 70
  | .vmem => 5
  | .smem => 0
  | _ => 0

abbrev bufTy : (tb : Table) → Fin (tcTables nBuf tb) → BufTy
  | .hbm, ⟨0, _⟩ => ⟨S8x3072x3328, .bf16⟩
  | .hbm, ⟨1, _⟩ => ⟨S4992x3328, .fp8e4m3⟩
  | .hbm, ⟨2, _⟩ => ⟨S4992x52, .f32⟩
  | .hbm, ⟨3, _⟩ => ⟨S8x3072x3328, .f32⟩
  | .hbm, ⟨4, _⟩ => ⟨S24576x52x64, .f32⟩
  | .hbm, ⟨5, _⟩ => ⟨S24576x52x64, .f32⟩
  | .hbm, ⟨6, _⟩ => ⟨S_, .f32⟩
  | .hbm, ⟨7, _⟩ => ⟨S24576x52, .f32⟩
  | .hbm, ⟨8, _⟩ => ⟨S_, .f32⟩
  | .hbm, ⟨9, _⟩ => ⟨S24576x52, .f32⟩
  | .hbm, ⟨10, _⟩ => ⟨S24576x52, .f32⟩
  | .hbm, ⟨11, _⟩ => ⟨S253, .i32⟩
  | .hbm, ⟨12, _⟩ => ⟨S253, .f32⟩
  | .hbm, ⟨13, _⟩ => ⟨S_, .f32⟩
  | .hbm, ⟨14, _⟩ => ⟨S253, .f32⟩
  | .hbm, ⟨15, _⟩ => ⟨S253, .f32⟩
  | .hbm, ⟨16, _⟩ => ⟨S_, .f32⟩
  | .hbm, ⟨17, _⟩ => ⟨S253, .f32⟩
  | .hbm, ⟨18, _⟩ => ⟨S253, .f32⟩
  | .hbm, ⟨19, _⟩ => ⟨S24576x52x1, .f32⟩
  | .hbm, ⟨20, _⟩ => ⟨S1x1x253, .f32⟩
  | .hbm, ⟨21, _⟩ => ⟨S24576x52x253, .f32⟩
  | .hbm, ⟨22, _⟩ => ⟨S24576x52x253, .f32⟩
  | .hbm, ⟨23, _⟩ => ⟨S24576x52x253, .i1⟩
  | .hbm, ⟨24, _⟩ => ⟨S_, .f32⟩
  | .hbm, ⟨25, _⟩ => ⟨S_, .f32⟩
  | .hbm, ⟨26, _⟩ => ⟨S24576x52x253, .f32⟩
  | .hbm, ⟨27, _⟩ => ⟨S24576x52x253, .f32⟩
  | .hbm, ⟨28, _⟩ => ⟨S24576x52x253, .f32⟩
  | .hbm, ⟨29, _⟩ => ⟨S_, .f32⟩
  | .hbm, ⟨30, _⟩ => ⟨S24576x52, .f32⟩
  | .hbm, ⟨31, _⟩ => ⟨S24576x52, .i1⟩
  | .hbm, ⟨32, _⟩ => ⟨S_, .f32⟩
  | .hbm, ⟨33, _⟩ => ⟨S24576x52, .f32⟩
  | .hbm, ⟨34, _⟩ => ⟨S_, .f32⟩
  | .hbm, ⟨35, _⟩ => ⟨S_, .f32⟩
  | .hbm, ⟨36, _⟩ => ⟨S24576x52, .f32⟩
  | .hbm, ⟨37, _⟩ => ⟨S24576x52, .f32⟩
  | .hbm, ⟨38, _⟩ => ⟨S_, .f32⟩
  | .hbm, ⟨39, _⟩ => ⟨S24576x52, .f32⟩
  | .hbm, ⟨40, _⟩ => ⟨S24576x52, .f32⟩
  | .hbm, ⟨41, _⟩ => ⟨S24576x52x1, .f32⟩
  | .hbm, ⟨42, _⟩ => ⟨S24576x52x64, .f32⟩
  | .hbm, ⟨43, _⟩ => ⟨S24576x52x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S24576x52x64, .f32⟩
  | .hbm, ⟨48, _⟩ => ⟨S24576x52x64, .f32⟩
  | .hbm, ⟨49, _⟩ => ⟨S_, .f32⟩
  | .hbm, ⟨50, _⟩ => ⟨S24576x52x64, .f32⟩
  | .hbm, ⟨51, _⟩ => ⟨S24576x52x64, .f32⟩
  | .hbm, ⟨52, _⟩ => ⟨S24576x3328, .f32⟩
  | .hbm, ⟨53, _⟩ => ⟨S24576x3328, .fp8e4m3⟩
  | .hbm, ⟨54, _⟩ => ⟨S24576x3328, .bf16⟩
  | .hbm, ⟨55, _⟩ => ⟨S4992x3328, .bf16⟩
  | .hbm, ⟨56, _⟩ => ⟨S24576x52x64, .bf16⟩
  | .hbm, ⟨57, _⟩ => ⟨S24576x52, .bf16⟩
  | .hbm, ⟨58, _⟩ => ⟨S24576x52x1, .bf16⟩
  | .hbm, ⟨59, _⟩ => ⟨S24576x52x64, .bf16⟩
  | .hbm, ⟨60, _⟩ => ⟨S24576x52x64, .bf16⟩
  | .hbm, ⟨61, _⟩ => ⟨S24576x3328, .bf16⟩
  | .hbm, ⟨62, _⟩ => ⟨S4992x52x64, .bf16⟩
  | .hbm, ⟨63, _⟩ => ⟨S4992x52, .bf16⟩
  | .hbm, ⟨64, _⟩ => ⟨S4992x52x1, .bf16⟩
  | .hbm, ⟨65, _⟩ => ⟨S4992x52x64, .bf16⟩
  | .hbm, ⟨66, _⟩ => ⟨S4992x52x64, .bf16⟩
  | .hbm, ⟨67, _⟩ => ⟨S4992x3328, .bf16⟩
  | .hbm, ⟨68, _⟩ => ⟨S24576x4992, .f32⟩
  | .hbm, ⟨69, _⟩ => ⟨S24576x4992, .bf16⟩
  | .local _ .vmem, ⟨0, _⟩ => ⟨S24576x3328, .f32⟩
  | .local _ .vmem, ⟨1, _⟩ => ⟨S4992x3328, .fp8e4m3⟩
  | .local _ .vmem, ⟨2, _⟩ => ⟨S24576x3328, .fp8e4m3⟩
  | .local _ .vmem, ⟨3, _⟩ => ⟨S24576x3328, .bf16⟩
  | .local _ .vmem, ⟨4, _⟩ => ⟨S4992x3328, .bf16⟩
  | _, _ => ⟨S8x3072x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_cst_9 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24576x3328 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4992x3328 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x3328 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4992x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Scale.lean ====
module

public import proofs.«01_k».proof.Proof.Gen.KernelIdeal.Loops
public import Idealize.ShloMosaic.Lib.Pipeline.ValueKit

/-! The scale word: the search over bit patterns finds the exponent field of the least power of two above a
    quotient, and the reciprocal word is the opposite power. -/

@[expose] public section

set_option maxRecDepth 16384

noncomputable section

open Idealize.ShloMosaic Idealize.ShloMosaic.TcCoe Idealize.SL.Sem

namespace Cert.Proof.Scale

/-- the 32-bit word of exponent field `n` and no other bit -/
def word (n : ℕ) : BitVec 32 := BitVec.ofNat 32 n <<< (23#32 : BitVec 32)

theorem word_fields : ∀ n : Fin 256, ((word n.val).extractLsb' 31 1 == 1#1) = false ∧ ((word n.val).extractLsb' 23 8).toNat = n.val
    ∧ ((word n.val).extractLsb' 0 23).toNat = 0 := by decide +kernel

theorem two_pow_shift (n : ℤ) : (1 : ℝ) * (8388608 : ℝ) * (2 : ℝ) ^ (n - 127 - 23) = 2 ^ (n - 127) := by
  rw [show (8388608 : ℝ) = 2 ^ (23 : ℤ) by norm_num, one_mul, ← zpow_add₀ (by norm_num : (2 : ℝ) ≠ 0)]
  exact congrArg _ (by ring)

theorem ieee_word (b : BitVec 32) (n : ℕ) (h1 : 1 ≤ n) (h : n ≤ 254) (f1 : (b.extractLsb' 31 1 == 1#1) = false)
    (f2 : (b.extractLsb' 23 8).toNat = n) (f3 : (b.extractLsb' 0 23).toNat = 0) :
    Ideal.ieee 8 23 b = (((2 : ℝ) ^ ((n : ℤ) - 127) : ℝ) : EReal) := by
  have c1 : ¬ (n = 255) := by omega
  have c2 : ¬ (n = 0) := by omega
  rw [← two_pow_shift]
  simp only [Ideal.ieee, Nat.reduceAdd, f1, f2, f3]
  norm_num [c1, c2]

theorem ofBits_word {n : ℕ} (h1 : 1 ≤ n) (h : n ≤ 254) : Ideal.ofBits .f32 (word n) = (((2 : ℝ) ^ ((n : ℤ) - 127) : ℝ) : EReal) :=
  ieee_word (word n) n h1 h (word_fields ⟨n, by omega⟩).1 (word_fields ⟨n, by omega⟩).2.1 (word_fields ⟨n, by omega⟩).2.2

theorem ofBits_word_top : Ideal.ofBits .f32 (word 255) = ⊤ := by
  obtain ⟨f1, f2, f3⟩ := word_fields ⟨255, by omega⟩
  simp only at f1 f2 f3
  simp [Ideal.ofBits, Ideal.ieee, f1, f2, f3]

/-- one step of the search for the exponent field of `q` -/
def step (b : ℕ) (q : Ideal .f32) (n : BitVec 32) : BitVec 32 :=
  Scalar.select (Scalar.cmpf .oge q (FloatOps.ofBits .f32 ((n + BitVec.ofNat 32 b) <<< (23#32 : BitVec 32)))) (n + BitVec.ofNat 32 b) n

/-- the exponent field of `q`, found bit by bit -/
def expo (q : Ideal .f32) : BitVec 32 :=
  step 1 q (step 2 q (step 4 q (step 8 q (step 16 q (step 32 q (step 64 q (step 128 q 0#32)))))))

/-- the word of the scale: the power of two above `q`, or one where `q` has no exponent -/
def scaleWord (q : Ideal .f32) : BitVec 32 :=
  Scalar.select (IntOp.cmpi .eq (expo q) 0#32) 127#32 (expo q + 1#32) <<< (23#32 : BitVec 32)

/-- where the search stands: `n` is a multiple of what is left, reached, and nothing past `n + b` is -/
def At (q : ℝ) (b n : ℕ) : Prop :=
  n + b ≤ 256 ∧ (n = 0 ∨ (2 : ℝ) ^ ((n : ℤ) - 127) ≤ q) ∧ q < (2 : ℝ) ^ ((n + b : ℤ) - 127)

theorem step_at {q : ℝ} (hq : q < 2 ^ (120 : ℤ)) {b n : ℕ} (hb : 1 ≤ b) (h : At q (b + b) n) :
    ∃ n', step b ((q : ℝ) : EReal) (BitVec.ofNat 32 n) = BitVec.ofNat 32 n' ∧ At q b n' := by
  obtain ⟨h1, h2, h3⟩ := h
  have hn : n ≤ 246 := by
    rcases h2 with h2 | h2
    · omega
    · have := (zpow_lt_zpow_iff_right₀ (by norm_num : (1 : ℝ) < 2)).1 (h2.trans_lt hq)
      omega
  unfold step
  rw [← BitVec.ofNat_add]
  have e : (FloatOps.ofBits (F := Ideal) .f32 (BitVec.ofNat 32 (n + b) <<< (23#32 : BitVec 32))) = (((2 : ℝ) ^ (((n + b : ℕ) : ℤ) - 127) : ℝ) : EReal) :=
    ofBits_word (n := n + b) (by omega) (by omega)
  rw [e]
  by_cases hc : (2 : ℝ) ^ (((n + b : ℕ) : ℤ) - 127) ≤ q
  all_goals have hc' := hc
  all_goals push_cast at hc'
  · refine ⟨n + b, ?_, by omega, Or.inr hc, ?_⟩
    · show Scalar.select (Ideal.cmp .oge _ _) _ _ = _
      simp [Ideal.cmp, Scalar.select, hc']
    · refine h3.trans_le (le_of_eq ?_)
      congr 1; push_cast; ring
  · refine ⟨n, ?_, by omega, h2, ?_⟩
    · show Scalar.select (Ideal.cmp .oge _ _) _ _ = _
      simp [Ideal.cmp, Scalar.select, hc']
    · exact not_le.1 hc'

theorem expo_at {q : ℝ} (hq : q < 2 ^ (120 : ℤ)) : ∃ n : ℕ, expo ((q : ℝ) : EReal) = BitVec.ofNat 32 n ∧ At q 1 n := by
  have h0 : At q (128 + 128) 0 := ⟨by norm_num, Or.inl rfl, hq.trans (by norm_num)⟩
  obtain ⟨n1, e1, h1⟩ := step_at hq (by norm_num) h0
  obtain ⟨n2, e2, h2⟩ := step_at hq (b := 64) (by norm_num) h1
  obtain ⟨n3, e3, h3⟩ := step_at hq (b := 32) (by norm_num) h2
  obtain ⟨n4, e4, h4⟩ := step_at hq (b := 16) (by norm_num) h3
  obtain ⟨n5, e5, h5⟩ := step_at hq (b := 8) (by norm_num) h4
  obtain ⟨n6, e6, h6⟩ := step_at hq (b := 4) (by norm_num) h5
  obtain ⟨n7, e7, h7⟩ := step_at hq (b := 2) (by norm_num) h6
  obtain ⟨n8, e8, h8⟩ := step_at hq (b := 1) (by norm_num) h7
  refine ⟨n8, ?_, h8⟩
  unfold expo
  rw [show (0#32 : BitVec 32) = BitVec.ofNat 32 0 from rfl, e1, e2, e3, e4, e5, e6, e7, e8]

/-- The scale the kernel takes is one power of two, and the word it subtracts from is its inverse. -/
theorem scaleWord_at {q : ℝ} (hq : q < 2 ^ (120 : ℤ)) : ∃ k : ℤ,
    Ideal.ofBits .f32 (scaleWord ((q : ℝ) : EReal)) = (((2 : ℝ) ^ k : ℝ) : EReal)
    ∧ Ideal.ofBits .f32 (2130706432#32 - scaleWord ((q : ℝ) : EReal)) = (((2 : ℝ) ^ (-k) : ℝ) : EReal)
    ∧ ((q < 2 ^ (-126 : ℤ) ∧ k = 0) ∨ (-125 ≤ k ∧ k ≤ 120 ∧ (2 : ℝ) ^ (k - 1) ≤ q ∧ q < 2 ^ k)) := by
  obtain ⟨n, e, h1, h2, h3⟩ := expo_at hq
  have sub : ∀ n : Fin 254, (2130706432#32 : BitVec 32) - word n.val = word (254 - n.val) := by decide +kernel
  have nz : ∀ n : Fin 256, IntOp.cmpi .eq (BitVec.ofNat 32 n.val) 0#32 = if n.val = 0 then 1 else 0 := by decide +kernel
  unfold scaleWord
  rw [e, nz ⟨n, by omega⟩]
  by_cases hn : n = 0
  · subst hn
    refine ⟨0, ?_, ?_, Or.inl ⟨?_, rfl⟩⟩
    · exact (ofBits_word (n := 127) (by norm_num) (by norm_num)).trans (by norm_num)
    · exact ((congrArg _ (sub ⟨127, by norm_num⟩)).trans (ofBits_word (n := 127) (by norm_num) (by norm_num))).trans (by norm_num)
    · exact h3.trans_le (le_of_eq (by norm_num))
  · have h2 := h2.resolve_left hn
    have hb : n ≤ 246 := by
      have : (2 : ℝ) ^ ((n : ℤ) - 127) < 2 ^ (120 : ℤ) := h2.trans_lt hq
      have := (zpow_lt_zpow_iff_right₀ (by norm_num : (1 : ℝ) < 2)).1 this
      omega
    have ew : Scalar.select (if n = 0 then (1 : BitVec 1) else 0) 127#32 (BitVec.ofNat 32 n + 1#32) <<< (23#32 : BitVec 32) = word (n + 1) := by
      rw [if_neg hn]
      show (BitVec.ofNat 32 n + BitVec.ofNat 32 1) <<< _ = _
      rw [← BitVec.ofNat_add]; rfl
    refine ⟨n - 126, ?_, ?_, Or.inr ⟨by omega, by omega, ?_, ?_⟩⟩
    · exact ((congrArg _ ew).trans (ofBits_word (n := n + 1) (by omega) (by omega))).trans (by congr 2; push_cast; ring)
    · refine ((congrArg (fun w => Ideal.ofBits .f32 (2130706432#32 - w)) ew).trans
        ((congrArg _ (sub ⟨n + 1, by omega⟩)).trans (ofBits_word (n := 254 - (n + 1)) (by omega) (by omega)))).trans ?_
      congr 2; omega
    · refine le_trans (le_of_eq ?_) h2; congr 1; ring
    · refine h3.trans_le (le_of_eq ?_); congr 1; ring
end Cert.Proof.Scale

end
-- ==== Proof.Spec.lean ====
module

public import proofs.«01_k».proof.Proof.Scale

/-! The values both programs compute, on a matrix of rows cut into 52 groups of 64 columns. -/

@[expose] public section

set_option maxRecDepth 16384

noncomputable section

open Idealize.ShloMosaic Idealize.ShloMosaic.TcCoe Idealize.SL.Sem

namespace Cert.Proof.Spec
open Cert.Proof.Scale

/-- the largest magnitude of a group, times the constant 1/448 -/
def quot (v : Fin 64 → EReal) : EReal := (⨆ d, max (v d) (-(v d))) * Ideal.ofBits .f32 0x3B124925#32
/-- the scale of a group -/
def scale (v : Fin 64 → EReal) : EReal := Ideal.ofBits .f32 (scaleWord (quot v))
/-- the inverse of the scale of a group -/
def recip (v : Fin 64 → EReal) : EReal := Ideal.ofBits .f32 (2130706432#32 - scaleWord (quot v))
/-- the code of one entry of a group -/
def code (x : EReal) (v : Fin 64 → EReal) : EReal :=
  min (Ideal.ofBits .bf16 0x43E0#16) (max (Ideal.ofBits .bf16 0xC3E0#16) (x * recip v))

/-- group `g` of row `r` -/
def group {R : ℕ} (x : (⟨2, ![R, 3328]⟩ : Shape).Idx → EReal) (r : Fin R) (g : Fin 52) : Fin 64 → EReal :=
  fun d => x (ix2 r ⟨64 * g.val + d.val, by omega⟩)

/-- the group a column lies in -/
def groupAt {R : ℕ} (x : (⟨2, ![R, 3328]⟩ : Shape).Idx → EReal) (y : (⟨2, ![R, 3328]⟩ : Shape).Idx) : Fin 64 → EReal :=
  group x (y 0) ⟨(y 1).val / 64, by have : (y 1).val < 3328 := (y 1).isLt; omega⟩

def codes {R : ℕ} (x : (⟨2, ![R, 3328]⟩ : Shape).Idx → EReal) (y : (⟨2, ![R, 3328]⟩ : Shape).Idx) : EReal := code (x y) (groupAt x y)
def scales {R : ℕ} (x : (⟨2, ![R, 3328]⟩ : Shape).Idx → EReal) (y : (⟨2, ![R, 52]⟩ : Shape).Idx) : EReal := scale (group x (y 0) (y 1))
def values {R : ℕ} (x : (⟨2, ![R, 3328]⟩ : Shape).Idx → EReal) (y : (⟨2, ![R, 3328]⟩ : Shape).Idx) : EReal := codes x y * scale (groupAt x y)
/-- the product of the dequantised rows with the dequantised weights, one output row to a row of the weights -/
def product {R : ℕ} (x : (⟨2, ![R, 3328]⟩ : Shape).Idx → EReal) (w : (⟨2, ![4992, 3328]⟩ : Shape).Idx → EReal) (s : (⟨2, ![4992, 52]⟩ : Shape).Idx → EReal)
    (z : (⟨2, ![R, 4992]⟩ : Shape).Idx) : EReal :=
  ∑ k : Fin 3328, values x (ix2 (z 0) k) * (w (ix2 (z 1) k) * s (ix2 (z 1) ⟨k.val / 64, by omega⟩))
end Cert.Proof.Spec

end
-- ==== Proof.Quant.lean ====
module

public import proofs.«01_k».proof.Proof.Gen.KernelIdeal.Loops
public import Idealize.ShloMosaic.Lib.Pipeline.ValueKit

/-! What one pass of the quantisation loop computes, in plain functions of one block of 32 rows: the
    rows are 26 tiles of 128 lanes, two groups of 64 to a tile. -/

@[expose] public section

set_option maxRecDepth 16384

noncomputable section

open Idealize.ShloMosaic Idealize.ShloMosaic.TcCoe Idealize.SL.Sem
open Cert.KernelIdeal Cert.KernelIdeal.Gen

namespace Cert.KernelIdeal.Quant

def lanes : IVec S32x128 32 := iota .tc S32x128 32 [1] iota_S32x128_d1_w32

def gatherV {α : Type} (x : S32x128.Idx → α) (w : IVec S32x128 32) : S32x128.Idx → α :=
  dynamicGather 1 x (shapeCast S32x128 (shapeCast S32x128x1
    (select (cmpi .slt w (broadcast S32x128 0#32)) (addi w (broadcast S32x128 128#32)) w)
    shapeCasts_S32x128_S32x128x1) shapeCasts_S32x128x1_S32x128)

def mergeV (bit : BitVec 32) (a b : FVec Ideal S32x128 .f32) : FVec Ideal S32x128 .f32 :=
  maximumf (select (cmpi .eq (andi lanes (broadcast S32x128 bit)) (broadcast S32x128 0#32)) a b)
    (gatherV (select (cmpi .eq (andi lanes (broadcast S32x128 bit)) (broadcast S32x128 0#32)) b a)
      (xori lanes (broadcast S32x128 bit)))

def aloneV (bit : BitVec 32) (a : FVec Ideal S32x128 .f32) : FVec Ideal S32x128 .f32 :=
  maximumf a (gatherV a (xori lanes (broadcast S32x128 bit)))

def level (bit : BitVec 32) (half : ℕ) (f : ℕ → FVec Ideal S32x128 .f32) (v : ℕ) : FVec Ideal S32x128 .f32 :=
  mergeV bit (f v) (f (v + half))

def level0 (f : ℕ → FVec Ideal S32x128 .f32) (v : ℕ) : FVec Ideal S32x128 .f32 :=
  if v < 10 then mergeV 32#32 (f v) (f (v + 16)) else aloneV 32#32 (f v)

def absV (T : ℕ → FVec Ideal S32x128 .bf16) (v : ℕ) : FVec Ideal S32x128 .f32 :=
  absf (extf .f32 (T v) bitsLt_bf16_f32)

def maximaV (T : ℕ → FVec Ideal S32x128 .bf16) : FVec Ideal S32x128 .f32 :=
  aloneV 1#32 (level 2#32 1 (level 4#32 2 (level 8#32 4 (level 16#32 8 (level0 (absV T))))) 0)

def quotV (T : ℕ → FVec Ideal S32x128 .bf16) : FVec Ideal S32x128 .f32 :=
  mulf (maximaV T) (broadcast S32x128 (Scalar.ofBits .f32 0x3B124925#32))

/-- one bit of the search. -/
def stepW (b : BitVec 32) (q : Ideal .f32) (n : BitVec 32) : BitVec 32 :=
  Scalar.select (Scalar.cmpf .oge q (FloatOps.ofBits .f32 ((n + b) <<< (23#32 : BitVec 32)))) (n + b) n

def stepV (b : BitVec 32) (q : FVec Ideal S32x128 .f32) (n : IVec S32x128 32) : IVec S32x128 32 :=
  select (cmpf .oge q (bitcastToFloat .f32 (shli (addi n (broadcast S32x128 b)) (broadcast S32x128 23#32))))
    (addi n (broadcast S32x128 b)) n

def expoV (q : FVec Ideal S32x128 .f32) : IVec S32x128 32 :=
  stepV 1#32 q (stepV 2#32 q (stepV 4#32 q (stepV 8#32 q (stepV 16#32 q (stepV 32#32 q (stepV 64#32 q
    (stepV 128#32 q (broadcast S32x128 0#32))))))))

def wordsV (T : ℕ → FVec Ideal S32x128 .bf16) : IVec S32x128 32 :=
  shli (select (cmpi .eq (expoV (quotV T)) (broadcast S32x128 0#32)) (broadcast S32x128 127#32)
    (addi (expoV (quotV T)) (broadcast S32x128 1#32))) (broadcast S32x128 23#32)

def compactV (T : ℕ → FVec Ideal S32x128 .bf16) : FVec Ideal S32x128 .f32 :=
  bitcastToFloat .f32 (gatherV (wordsV T) (addi (shli (andi lanes (broadcast S32x128 1#32)) (broadcast S32x128 6#32))
    (andi lanes (broadcast S32x128 62#32))))

def tileWordsV (T : ℕ → FVec Ideal S32x128 .bf16) (v : ℕ) : IVec S32x128 32 :=
  gatherV (wordsV T) (addi (shli (shrsi lanes (broadcast S32x128 6#32)) (broadcast S32x128 6#32))
    (broadcast S32x128 (BitVec.ofNat 32 (2 * v))))

def codesV (T : ℕ → FVec Ideal S32x128 .bf16) (v : ℕ) : FVec Ideal S32x128 .fp8e4m3 :=
  truncf .fp8e4m3 (minimumf (broadcast S32x128 (Scalar.ofBits .bf16 0x43E0#16))
    (maximumf (broadcast S32x128 (Scalar.ofBits .bf16 0xC3E0#16))
      (mulf (T v) (truncf .bf16 (bitcastToFloat .f32 (subi (broadcast S32x128 2130706432#32) (tileWordsV T v))) bitsLt_bf16_f32))))
    bitsLt_fp8e4m3_bf16

def valuesV (T : ℕ → FVec Ideal S32x128 .bf16) (v : ℕ) : FVec Ideal S32x128 .bf16 :=
  shapeCast S32x128 (mulf (extf .bf16 (codesV T v) bitsLt_fp8e4m3_bf16)
    (truncf .bf16 (bitcastToFloat .f32 (tileWordsV T v)) bitsLt_bf16_f32)) shapeCasts_S32x128_S32x128

def tile (arg1 : Memref sig .tc .vmem S256x3328 .bf16) (X : BufTy.Contents (Elt Ideal) arg1.view.ty) (k : Fin k0_t2_loop.trips) : ℕ → FVec Ideal S32x128 .bf16
  | 0 => shapeCast S32x128 (View.readAt (Elt Ideal) arg1.view (Rect.unit (s := S256x3328) (k0_off28 k) S32x128.size (k0_off28_inb k)).toLoadRect X) shapeCasts_S32x128_S32x128
  | 1 => shapeCast S32x128 (View.readAt (Elt Ideal) arg1.view (Rect.unit (s := S256x3328) (k0_off29 k) S32x128.size (k0_off29_inb k)).toLoadRect X) shapeCasts_S32x128_S32x128
  | 2 => shapeCast S32x128 (View.readAt (Elt Ideal) arg1.view (Rect.unit (s := S256x3328) (k0_off30 k) S32x128.size (k0_off30_inb k)).toLoadRect X) shapeCasts_S32x128_S32x128
  | 3 => shapeCast S32x128 (View.readAt (Elt Ideal) arg1.view (Rect.unit (s := S256x3328) (k0_off31 k) S32x128.size (k0_off31_inb k)).toLoadRect X) shapeCasts_S32x128_S32x128
  | 4 => shapeCast S32x128 (View.readAt (Elt Ideal) arg1.view (Rect.unit (s := S256x3328) (k0_off32 k) S32x128.size (k0_off32_inb k)).toLoadRect X) shapeCasts_S32x128_S32x128
  | 5 => shapeCast S32x128 (View.readAt (Elt Ideal) arg1.view (Rect.unit (s := S256x3328) (k0_off33 k) S32x128.size (k0_off33_inb k)).toLoadRect X) shapeCasts_S32x128_S32x128
  | 6 => shapeCast S32x128 (View.readAt (Elt Ideal) arg1.view (Rect.unit (s := S256x3328) (k0_off34 k) S32x128.size (k0_off34_inb k)).toLoadRect X) shapeCasts_S32x128_S32x128
  | 7 => shapeCast S32x128 (View.readAt (Elt Ideal) arg1.view (Rect.unit (s := S256x3328) (k0_off35 k) S32x128.size (k0_off35_inb k)).toLoadRect X) shapeCasts_S32x128_S32x128
  | 8 => shapeCast S32x128 (View.readAt (Elt Ideal) arg1.view (Rect.unit (s := S256x3328) (k0_off36 k) S32x128.size (k0_off36_inb k)).toLoadRect X) shapeCasts_S32x128_S32x128
  | 9 => shapeCast S32x128 (View.readAt (Elt Ideal) arg1.view (Rect.unit (s := S256x3328) (k0_off37 k) S32x128.size (k0_off37_inb k)).toLoadRect X) shapeCasts_S32x128_S32x128
  | 10 => shapeCast S32x128 (View.readAt (Elt Ideal) arg1.view (Rect.unit (s := S256x3328) (k0_off38 k) S32x128.size (k0_off38_inb k)).toLoadRect X) shapeCasts_S32x128_S32x128
  | 11 => shapeCast S32x128 (View.readAt (Elt Ideal) arg1.view (Rect.unit (s := S256x3328) (k0_off39 k) S32x128.size (k0_off39_inb k)).toLoadRect X) shapeCasts_S32x128_S32x128
  | 12 => shapeCast S32x128 (View.readAt (Elt Ideal) arg1.view (Rect.unit (s := S256x3328) (k0_off40 k) S32x128.size (k0_off40_inb k)).toLoadRect X) shapeCasts_S32x128_S32x128
  | 13 => shapeCast S32x128 (View.readAt (Elt Ideal) arg1.view (Rect.unit (s := S256x3328) (k0_off41 k) S32x128.size (k0_off41_inb k)).toLoadRect X) shapeCasts_S32x128_S32x128
  | 14 => shapeCast S32x128 (View.readAt (Elt Ideal) arg1.view (Rect.unit (s := S256x3328) (k0_off42 k) S32x128.size (k0_off42_inb k)).toLoadRect X) shapeCasts_S32x128_S32x128
  | 15 => shapeCast S32x128 (View.readAt (Elt Ideal) arg1.view (Rect.unit (s := S256x3328) (k0_off43 k) S32x128.size (k0_off43_inb k)).toLoadRect X) shapeCasts_S32x128_S32x128
  | 16 => shapeCast S32x128 (View.readAt (Elt Ideal) arg1.view (Rect.unit (s := S256x3328) (k0_off44 k) S32x128.size (k0_off44_inb k)).toLoadRect X) shapeCasts_S32x128_S32x128
  | 17 => shapeCast S32x128 (View.readAt (Elt Ideal) arg1.view (Rect.unit (s := S256x3328) (k0_off45 k) S32x128.size (k0_off45_inb k)).toLoadRect X) shapeCasts_S32x128_S32x128
  | 18 => shapeCast S32x128 (View.readAt (Elt Ideal) arg1.view (Rect.unit (s := S256x3328) (k0_off46 k) S32x128.size (k0_off46_inb k)).toLoadRect X) shapeCasts_S32x128_S32x128
  | 19 => shapeCast S32x128 (View.readAt (Elt Ideal) arg1.view (Rect.unit (s := S256x3328) (k0_off47 k) S32x128.size (k0_off47_inb k)).toLoadRect X) shapeCasts_S32x128_S32x128
  | 20 => shapeCast S32x128 (View.readAt (Elt Ideal) arg1.view (Rect.unit (s := S256x3328) (k0_off48 k) S32x128.size (k0_off48_inb k)).toLoadRect X) shapeCasts_S32x128_S32x128
  | 21 => shapeCast S32x128 (View.readAt (Elt Ideal) arg1.view (Rect.unit (s := S256x3328) (k0_off49 k) S32x128.size (k0_off49_inb k)).toLoadRect X) shapeCasts_S32x128_S32x128
  | 22 => shapeCast S32x128 (View.readAt (Elt Ideal) arg1.view (Rect.unit (s := S256x3328) (k0_off50 k) S32x128.size (k0_off50_inb k)).toLoadRect X) shapeCasts_S32x128_S32x128
  | 23 => shapeCast S32x128 (View.readAt (Elt Ideal) arg1.view (Rect.unit (s := S256x3328) (k0_off51 k) S32x128.size (k0_off51_inb k)).toLoadRect X) shapeCasts_S32x128_S32x128
  | 24 => shapeCast S32x128 (View.readAt (Elt Ideal) arg1.view (Rect.unit (s := S256x3328) (k0_off52 k) S32x128.size (k0_off52_inb k)).toLoadRect X) shapeCasts_S32x128_S32x128
  | 25 => shapeCast S32x128 (View.readAt (Elt Ideal) arg1.view (Rect.unit (s := S256x3328) (k0_off53 k) S32x128.size (k0_off53_inb k)).toLoadRect X) shapeCasts_S32x128_S32x128
  | _ => fun _ => 0

end Cert.KernelIdeal.Quant

end
-- ==== Proof.Lanes.lean ====
module

public import proofs.«01_k».proof.Proof.Quant
public import Idealize.ShloMosaic.Lib.Pipeline.ValueKit

/-! The lane arithmetic of the quantisation: the butterfly of lane gathers leaves in every lane the
    largest magnitude of its group of 64, and the gathers that spread a scale over its group. -/

@[expose] public section

set_option maxRecDepth 16384

noncomputable section

open Idealize.ShloMosaic Idealize.ShloMosaic.TcCoe Idealize.SL.Sem
open Cert.KernelIdeal Cert.KernelIdeal.Gen

namespace Cert.KernelIdeal.Quant

/-- the lane a gather reads -/
def at128 (w : BitVec 32) : Fin 128 :=
  ⟨(Scalar.select (IntOp.cmpi .slt w 0#32) (w + 128#32) w).toNat % 128, Nat.mod_lt _ (by decide)⟩

abbrev P (r : Fin 32) (l : Fin 128) : S32x128.Idx := ix2 (n0 := 32) (n1 := 128) r l

theorem lanes_at (r : Fin 32) (l : Fin 128) : lanes (P r l) = BitVec.ofNat 32 l.val := by
  rw [lanes, iota_single_apply]; rfl

theorem gatherV_at {α : Type} (x : S32x128.Idx → α) (w : IVec S32x128 32) (r : Fin 32) (l : Fin 128) :
    gatherV x w (P r l) = x (P r (at128 (w (P r l)))) := by
  rw [gatherV, shapeCast_shapeCast]
  unfold dynamicGather
  refine congrArg x ?_
  funext b
  match b with
  | 0 => rfl
  | 1 => rfl

theorem xor_lane (bit : BitVec 32) (hb : bit = 32#32 ∨ bit = 16#32 ∨ bit = 8#32 ∨ bit = 4#32 ∨ bit = 2#32 ∨ bit = 1#32) (l : Fin 128) :
    at128 (BitVec.ofNat 32 l.val ^^^ bit) = l ^^^ (Fin.ofNat 128 bit.toNat) := by
  rcases hb with rfl | rfl | rfl | rfl | rfl | rfl <;> revert l <;> decide

def low (bit : BitVec 32) (l : Fin 128) : Prop := (BitVec.ofNat 32 l.val &&& bit) = 0#32

instance (bit : BitVec 32) (l : Fin 128) : Decidable (low bit l) := inferInstanceAs (Decidable (_ = _))

theorem low_select {α : Type} (bit : BitVec 32) (a b : S32x128.Idx → α) (r : Fin 32) (l : Fin 128) :
    select (cmpi .eq (andi lanes (broadcast S32x128 bit)) (broadcast S32x128 0#32)) a b (P r l) = if low bit l then a (P r l) else b (P r l) := by
  show Scalar.select (IntOp.cmpi .eq (lanes (P r l) &&& bit) 0#32) _ _ = _
  rw [lanes_at]
  by_cases h : low bit l
  · rw [if_pos h]; unfold low at h; rw [h]; rfl
  · rw [if_neg h]; unfold low at h
    have : IntOp.cmpi .eq (BitVec.ofNat 32 l.val &&& bit) 0#32 = 0#1 := by
      simp only [IntOp.cmpi, beq_eq_false_iff_ne.mpr h]; rfl
    rw [this]; rfl

def lowFin (bit : BitVec 32) (hb : bit = 32#32 ∨ bit = 16#32 ∨ bit = 8#32 ∨ bit = 4#32 ∨ bit = 2#32 ∨ bit = 1#32) (l : Fin 128) :
    low bit (l ^^^ Fin.ofNat 128 bit.toNat) ↔ ¬ low bit l := by
  rcases hb with rfl | rfl | rfl | rfl | rfl | rfl <;> revert l <;> decide

theorem mergeV_at (bit : BitVec 32) (hb : bit = 32#32 ∨ bit = 16#32 ∨ bit = 8#32 ∨ bit = 4#32 ∨ bit = 2#32 ∨ bit = 1#32) (a b : FVec Ideal S32x128 .f32) (r : Fin 32) (l : Fin 128) :
    mergeV bit a b (P r l) = max (if low bit l then a (P r l) else b (P r l))
      (if low bit l then a (P r (l ^^^ Fin.ofNat 128 bit.toNat)) else b (P r (l ^^^ Fin.ofNat 128 bit.toNat)) : EReal) := by
  show max (select _ a b (P r l) : EReal) (gatherV (select _ b a) (xori lanes (broadcast S32x128 bit)) (P r l)) = _
  rw [low_select, gatherV_at]
  have e : at128 (xori lanes (broadcast S32x128 bit) (P r l)) = l ^^^ Fin.ofNat 128 bit.toNat := by
    show at128 (lanes (P r l) ^^^ bit) = _
    rw [lanes_at, xor_lane bit hb]
  rw [e, low_select]
  congr 1
  by_cases h : low bit l
  · rw [if_pos h, if_neg (fun h' => (lowFin bit hb l).mp h' h)]
  · rw [if_neg h, if_pos ((lowFin bit hb l).mpr h)]

theorem aloneV_at (bit : BitVec 32) (hb : bit = 32#32 ∨ bit = 16#32 ∨ bit = 8#32 ∨ bit = 4#32 ∨ bit = 2#32 ∨ bit = 1#32) (a : FVec Ideal S32x128 .f32) (r : Fin 32) (l : Fin 128) :
    aloneV bit a (P r l) = max (a (P r l) : EReal) (a (P r (l ^^^ Fin.ofNat 128 bit.toNat))) := by
  show max (a (P r l) : EReal) (gatherV a (xori lanes (broadcast S32x128 bit)) (P r l)) = _
  rw [gatherV_at]
  have e : at128 (xori lanes (broadcast S32x128 bit) (P r l)) = l ^^^ Fin.ofNat 128 bit.toNat := by
    show at128 (lanes (P r l) ^^^ bit) = _
    rw [lanes_at, xor_lane bit hb]
  rw [e]

/-- `f v` at lane `l` is the largest of the entries of the tiles `v + off l` at the lanes `l ^ s`. -/
def Spans (r : Fin 32) (A : ℕ → FVec Ideal S32x128 .f32) (n : ℕ) (f : ℕ → FVec Ideal S32x128 .f32) (off : Fin 128 → ℕ) (M : List (Fin 128)) : Prop :=
  ∀ v < n, ∀ (l : Fin 128) (b : EReal), (f v (P r l) : EReal) ≤ b ↔ ∀ s ∈ M, (A (v + off l) (P r (l ^^^ s)) : EReal) ≤ b

theorem xor_val (x y : Fin 128) : (x ^^^ y).val = x.val ^^^ y.val :=
  Nat.mod_eq_of_lt (Nat.xor_lt_two_pow (n := 7) x.isLt y.isLt)

theorem xor_assoc' (a b c : Fin 128) : (a ^^^ b) ^^^ c = a ^^^ (b ^^^ c) := by
  apply Fin.ext
  simp only [xor_val, Nat.xor_assoc]

theorem Spans.level {r : Fin 32} {A f : ℕ → FVec Ideal S32x128 .f32} {half : ℕ} {off : Fin 128 → ℕ} {M : List (Fin 128)}
    (bit : BitVec 32) (hb : bit = 32#32 ∨ bit = 16#32 ∨ bit = 8#32 ∨ bit = 4#32 ∨ bit = 2#32 ∨ bit = 1#32)
    (h : Spans r A (half + half) f off M) (ho : ∀ l, off (l ^^^ Fin.ofNat 128 bit.toNat) = off l) :
    Spans r A half (level bit half f) (fun l => (if low bit l then 0 else half) + off l) (M ++ M.map (Fin.ofNat 128 bit.toNat ^^^ ·)) := by
  intro v hv l b
  have h1 := h v (by omega)
  have h2 := h (v + half) (by omega)
  unfold Quant.level
  rw [mergeV_at bit hb, max_le_iff]
  simp only [List.mem_append, List.mem_map]
  by_cases hl : low bit l
  · simp only [if_pos hl]
    rw [h1, h1, ho]
    constructor
    · rintro ⟨p, q⟩ s (hs | ⟨t, ht, rfl⟩)
      · rw [Nat.zero_add]; exact p s hs
      · rw [Nat.zero_add, ← xor_assoc']; exact q t ht
    · intro p
      rw [Nat.zero_add] at p
      exact ⟨fun s hs => p s (.inl hs), fun s hs => by rw [xor_assoc']; exact p _ (.inr ⟨s, hs, rfl⟩)⟩
  · simp only [if_neg hl]
    rw [h2, h2, ho]
    constructor
    · rintro ⟨p, q⟩ s (hs | ⟨t, ht, rfl⟩)
      · rw [← Nat.add_assoc]; exact p s hs
      · rw [← xor_assoc', ← Nat.add_assoc]; exact q t ht
    · intro p
      rw [← Nat.add_assoc] at p
      exact ⟨fun s hs => p s (.inl hs), fun s hs => by rw [xor_assoc']; exact p _ (.inr ⟨s, hs, rfl⟩)⟩

theorem zero_xor' (s : Fin 128) : (0 : Fin 128) ^^^ s = s := Fin.ext (by rw [xor_val]; exact Nat.zero_xor _)

/-- a tile past the last one stands for the tile sixteen before it -/
def padded (A : ℕ → FVec Ideal S32x128 .f32) (v : ℕ) : FVec Ideal S32x128 .f32 := if v < 26 then A v else A (v - 16)

theorem spans0 (r : Fin 32) (A : ℕ → FVec Ideal S32x128 .f32) :
    Spans r (padded A) 16 (level0 A) (fun l => if low 32#32 l then 0 else 16) [0, 32] := by
  intro v hv l b
  have x0 : ∀ l : Fin 128, l ^^^ 0 = l := by decide
  simp only [List.mem_cons, List.not_mem_nil, or_false, forall_eq_or_imp, forall_eq, x0]
  unfold level0
  by_cases h : v < 10
  · rw [if_pos h, mergeV_at 32#32 (.inl rfl), max_le_iff]
    by_cases hl : low 32#32 l
    · simp only [if_pos hl, Nat.add_zero, padded, show v < 26 by omega, if_true]; exact Iff.rfl
    · simp only [if_neg hl, padded, show v + 16 < 26 by omega, if_true]; exact Iff.rfl
  · rw [if_neg h, aloneV_at 32#32 (.inl rfl), max_le_iff]
    by_cases hl : low 32#32 l
    · simp only [if_pos hl, Nat.add_zero, padded, show v < 26 by omega, if_true]; exact Iff.rfl
    · simp only [if_neg hl, padded, show ¬ v + 16 < 26 by omega, if_false, Nat.add_sub_cancel]; exact Iff.rfl

theorem spans (r : Fin 32) (A : ℕ → FVec Ideal S32x128 .f32) :
    ∃ off : Fin 128 → ℕ, ∃ M : List (Fin 128), (∀ l : Fin 128, off l = (l.val % 64) / 2) ∧ (∀ l : Fin 128, off (l ^^^ 1) = off l) ∧
      (∀ d : Fin 128, d.val < 64 → d ∈ M ∨ (1 ^^^ d) ∈ M) ∧ (∀ d ∈ M, d.val < 64) ∧
      Spans r (padded A) 1 (level 2#32 1 (level 4#32 2 (level 8#32 4 (level 16#32 8 (level0 A))))) off M :=
  ⟨_, _, by decide, by decide, by decide, by decide,
    ((((spans0 r A).level (half := 8) 16#32 (by decide) (by decide)).level (half := 4) 8#32 (by decide) (by decide)).level (half := 2) 4#32 (by decide) (by decide)).level (half := 1) 2#32 (by decide) (by decide)⟩

theorem maximaV_le (T : ℕ → FVec Ideal S32x128 .bf16) (r : Fin 32) (l : Fin 128) (hl : (l.val % 64) / 2 < 26) (b : EReal) :
    (maximaV T (P r l) : EReal) ≤ b ↔ ∀ d : Fin 64, (absV T ((l.val % 64) / 2) (P r ⟨64 * (l.val / 64) + d.val, by omega⟩) : EReal) ≤ b := by
  obtain ⟨off, M, ho, hx, hM, hM', h⟩ := spans r (absV T)
  unfold maximaV
  rw [aloneV_at 1#32 (by decide), max_le_iff, h 0 (by decide), h 0 (by decide)]
  have e1 : (Fin.ofNat 128 (1#32 : BitVec 32).toNat) = 1 := rfl
  simp only [e1, hx, ho, Nat.zero_add, padded, if_pos hl]
  have xv : ∀ x y : Fin 128, (x ^^^ y).val / 64 = (x.val / 64) ^^^ (y.val / 64) := fun x y => by
    rw [xor_val, ← Nat.shiftRight_eq_div_pow _ 6, Nat.shiftRight_xor_distrib, Nat.shiftRight_eq_div_pow, Nat.shiftRight_eq_div_pow]
  have dec : ∀ l d : Fin 128, d.val < 64 → (l ^^^ d).val / 64 = l.val / 64 := fun l d hd => by
    rw [xv, Nat.div_eq_of_lt hd, Nat.xor_zero]
  have key : ∀ d : Fin 64, ∃ s : Fin 128, s.val < 64 ∧ (l ^^^ s).val = 64 * (l.val / 64) + d.val := fun d => by
    refine ⟨l ^^^ ⟨64 * (l.val / 64) + d.val, by omega⟩, ?_, ?_⟩
    · have := xv l ⟨64 * (l.val / 64) + d.val, by omega⟩
      have e : (64 * (l.val / 64) + d.val) / 64 = l.val / 64 := by omega
      rw [e, Nat.xor_self] at this
      omega
    · rw [← xor_assoc', xor_val, xor_val, Nat.xor_self, Nat.zero_xor]
  constructor
  · rintro ⟨p, q⟩ d
    obtain ⟨s, hs, e⟩ := key d
    have e' : (⟨64 * (l.val / 64) + d.val, by omega⟩ : Fin 128) = l ^^^ s := Fin.ext e.symm
    rw [e']
    rcases hM s hs with hm | hm
    · exact p s hm
    · have := q _ hm
      rwa [xor_assoc', show (1 : Fin 128) ^^^ (1 ^^^ s) = s by rw [← xor_assoc']; exact zero_xor' s] at this
  · intro p
    have gen : ∀ s : Fin 128, s.val < 64 → (absV T ((l.val % 64) / 2) (P r (l ^^^ s)) : EReal) ≤ b := fun s hs => by
      have := p ⟨(l ^^^ s).val % 64, Nat.mod_lt _ (by decide)⟩
      have e : (⟨64 * (l.val / 64) + (l ^^^ s).val % 64, by omega⟩ : Fin 128) = l ^^^ s := Fin.ext (by
        have := dec l s hs; show 64 * (l.val / 64) + (l ^^^ s).val % 64 = (l ^^^ s).val; omega)
      simpa only [e] using this
    refine ⟨fun s hs => gen s (hM' s hs), fun s hs => ?_⟩
    rw [xor_assoc']
    have : ∀ s : Fin 128, s.val < 64 → (1 ^^^ s : Fin 128).val < 64 := by decide
    exact gen _ (this s (hM' s hs))
end Cert.KernelIdeal.Quant

end
-- ==== Proof.QuantPieces.lean ====
module

public import proofs.«01_k».proof.Proof.Gen.KernelIdeal.Loops
public import proofs.«01_k».proof.Proof.Quant
public import Idealize.ShloMosaic.Lib.Pipeline.ValueKit

/-! The stores of one pass of the quantisation loop (scales, codes, dequantised rows), each equal to a
    plain function of the block of rows the pass loads. -/

@[expose] public section

set_option maxRecDepth 16384

noncomputable section

open Idealize.ShloMosaic Idealize.ShloMosaic.TcCoe Idealize.SL.Sem
open Cert.KernelIdeal Cert.KernelIdeal.Gen

namespace Cert.KernelIdeal.Quant

theorem quot_eq (arg1 : Memref sig .tc .vmem S256x3328 .bf16) (X : BufTy.Contents (Elt Ideal) arg1.view.ty) (k : Fin k0_t2_loop.trips) : trip_k0_t2.sl.r_78 (F := Ideal) arg1 X k = quotV (tile arg1 X k) := rfl
theorem words_eq (arg1 : Memref sig .tc .vmem S256x3328 .bf16) (X : BufTy.Contents (Elt Ideal) arg1.view.ty) (k : Fin k0_t2_loop.trips) : trip_k0_t2.sl.r_83 (F := Ideal) arg1 X k = wordsV (tile arg1 X k) := rfl

theorem codes_pieces (𝒱 : Variants) (c : Dev nD) (bd : Option 𝒱.V) (i : grid0.Coords) (arg1 : Memref sig .tc .vmem S256x3328 .bf16) (harg1 : arg1.IsWhole) (arg2 : Memref sig .tc .vmem S4992x3328 .fp8e4m3) (harg2 : arg2.IsWhole) (arg3 : Memref sig .tc .vmem S4992x128 .f32) (harg3 : arg3.IsWhole) (arg4 : Memref sig .tc .vmem S256x4992 .bf16) (harg4 : arg4.IsWhole) (arg5 : Memref sig .tc .vmem S256x3328 .fp8e4m3) (harg5 : arg5.IsWhole) (arg6 : Memref sig .tc .vmem S256x52 .f32) (harg6 : arg6.IsWhole) (arg7 : Memref sig .tc .vmem S4992x3328 .bf16) (harg7 : arg7.IsWhole) (arg8 : Memref sig .tc .vmem S256x3328 .bf16) (harg8 : arg8.IsWhole) (X : BufTy.Contents (Elt Ideal) arg1.view.ty) (k : Fin k0_t2_loop.trips) :
    (trip_k0_t2 (F := Ideal) 𝒱 c bd i arg1 harg1 arg2 harg2 arg3 harg3 arg4 harg4 arg5 harg5 arg6 harg6 arg7 harg7 arg8 harg8 X k).1 =
    [⟨Rect.unit (s := S256x3328) (k0_off53 k) S32x128.size (k0_off53_inb k), codesV (tile arg1 X k) 25⟩,
    ⟨Rect.unit (s := S256x3328) (k0_off52 k) S32x128.size (k0_off52_inb k), codesV (tile arg1 X k) 24⟩,
    ⟨Rect.unit (s := S256x3328) (k0_off51 k) S32x128.size (k0_off51_inb k), codesV (tile arg1 X k) 23⟩,
    ⟨Rect.unit (s := S256x3328) (k0_off50 k) S32x128.size (k0_off50_inb k), codesV (tile arg1 X k) 22⟩,
    ⟨Rect.unit (s := S256x3328) (k0_off49 k) S32x128.size (k0_off49_inb k), codesV (tile arg1 X k) 21⟩,
    ⟨Rect.unit (s := S256x3328) (k0_off48 k) S32x128.size (k0_off48_inb k), codesV (tile arg1 X k) 20⟩,
    ⟨Rect.unit (s := S256x3328) (k0_off47 k) S32x128.size (k0_off47_inb k), codesV (tile arg1 X k) 19⟩,
    ⟨Rect.unit (s := S256x3328) (k0_off46 k) S32x128.size (k0_off46_inb k), codesV (tile arg1 X k) 18⟩,
    ⟨Rect.unit (s := S256x3328) (k0_off45 k) S32x128.size (k0_off45_inb k), codesV (tile arg1 X k) 17⟩,
    ⟨Rect.unit (s := S256x3328) (k0_off44 k) S32x128.size (k0_off44_inb k), codesV (tile arg1 X k) 16⟩,
    ⟨Rect.unit (s := S256x3328) (k0_off43 k) S32x128.size (k0_off43_inb k), codesV (tile arg1 X k) 15⟩,
    ⟨Rect.unit (s := S256x3328) (k0_off42 k) S32x128.size (k0_off42_inb k), codesV (tile arg1 X k) 14⟩,
    ⟨Rect.unit (s := S256x3328) (k0_off41 k) S32x128.size (k0_off41_inb k), codesV (tile arg1 X k) 13⟩,
    ⟨Rect.unit (s := S256x3328) (k0_off40 k) S32x128.size (k0_off40_inb k), codesV (tile arg1 X k) 12⟩,
    ⟨Rect.unit (s := S256x3328) (k0_off39 k) S32x128.size (k0_off39_inb k), codesV (tile arg1 X k) 11⟩,
    ⟨Rect.unit (s := S256x3328) (k0_off38 k) S32x128.size (k0_off38_inb k), codesV (tile arg1 X k) 10⟩,
    ⟨Rect.unit (s := S256x3328) (k0_off37 k) S32x128.size (k0_off37_inb k), codesV (tile arg1 X k) 9⟩,
    ⟨Rect.unit (s := S256x3328) (k0_off36 k) S32x128.size (k0_off36_inb k), codesV (tile arg1 X k) 8⟩,
    ⟨Rect.unit (s := S256x3328) (k0_off35 k) S32x128.size (k0_off35_inb k), codesV (tile arg1 X k) 7⟩,
    ⟨Rect.unit (s := S256x3328) (k0_off34 k) S32x128.size (k0_off34_inb k), codesV (tile arg1 X k) 6⟩,
    ⟨Rect.unit (s := S256x3328) (k0_off33 k) S32x128.size (k0_off33_inb k), codesV (tile arg1 X k) 5⟩,
    ⟨Rect.unit (s := S256x3328) (k0_off32 k) S32x128.size (k0_off32_inb k), codesV (tile arg1 X k) 4⟩,
    ⟨Rect.unit (s := S256x3328) (k0_off31 k) S32x128.size (k0_off31_inb k), codesV (tile arg1 X k) 3⟩,
    ⟨Rect.unit (s := S256x3328) (k0_off30 k) S32x128.size (k0_off30_inb k), codesV (tile arg1 X k) 2⟩,
    ⟨Rect.unit (s := S256x3328) (k0_off29 k) S32x128.size (k0_off29_inb k), codesV (tile arg1 X k) 1⟩,
    ⟨Rect.unit (s := S256x3328) (k0_off28 k) S32x128.size (k0_off28_inb k), codesV (tile arg1 X k) 0⟩] := by
  unfold trip_k0_t2; dsimp only
  rfl
theorem scale_pieces (𝒱 : Variants) (c : Dev nD) (bd : Option 𝒱.V) (i : grid0.Coords) (arg1 : Memref sig .tc .vmem S256x3328 .bf16) (harg1 : arg1.IsWhole) (arg2 : Memref sig .tc .vmem S4992x3328 .fp8e4m3) (harg2 : arg2.IsWhole) (arg3 : Memref sig .tc .vmem S4992x128 .f32) (harg3 : arg3.IsWhole) (arg4 : Memref sig .tc .vmem S256x4992 .bf16) (harg4 : arg4.IsWhole) (arg5 : Memref sig .tc .vmem S256x3328 .fp8e4m3) (harg5 : arg5.IsWhole) (arg6 : Memref sig .tc .vmem S256x52 .f32) (harg6 : arg6.IsWhole) (arg7 : Memref sig .tc .vmem S4992x3328 .bf16) (harg7 : arg7.IsWhole) (arg8 : Memref sig .tc .vmem S256x3328 .bf16) (harg8 : arg8.IsWhole) (X : BufTy.Contents (Elt Ideal) arg1.view.ty) (k : Fin k0_t2_loop.trips) :
    (trip_k0_t2 (F := Ideal) 𝒱 c bd i arg1 harg1 arg2 harg2 arg3 harg3 arg4 harg4 arg5 harg5 arg6 harg6 arg7 harg7 arg8 harg8 X k).2.1 =
    [⟨Rect.unit (s := S256x52) (k0_off54 k) S32x52.size (k0_off54_inb k), extractStridedSlice S32x52 ![0, 0] (compactV (tile arg1 X k)) slices_S32x128_o0_0_S32x52⟩] := by
  unfold trip_k0_t2; dsimp only
  rfl
theorem values_pieces (𝒱 : Variants) (c : Dev nD) (bd : Option 𝒱.V) (i : grid0.Coords) (arg1 : Memref sig .tc .vmem S256x3328 .bf16) (harg1 : arg1.IsWhole) (arg2 : Memref sig .tc .vmem S4992x3328 .fp8e4m3) (harg2 : arg2.IsWhole) (arg3 : Memref sig .tc .vmem S4992x128 .f32) (harg3 : arg3.IsWhole) (arg4 : Memref sig .tc .vmem S256x4992 .bf16) (harg4 : arg4.IsWhole) (arg5 : Memref sig .tc .vmem S256x3328 .fp8e4m3) (harg5 : arg5.IsWhole) (arg6 : Memref sig .tc .vmem S256x52 .f32) (harg6 : arg6.IsWhole) (arg7 : Memref sig .tc .vmem S4992x3328 .bf16) (harg7 : arg7.IsWhole) (arg8 : Memref sig .tc .vmem S256x3328 .bf16) (harg8 : arg8.IsWhole) (X : BufTy.Contents (Elt Ideal) arg1.view.ty) (k : Fin k0_t2_loop.trips) :
    (trip_k0_t2 (F := Ideal) 𝒱 c bd i arg1 harg1 arg2 harg2 arg3 harg3 arg4 harg4 arg5 harg5 arg6 harg6 arg7 harg7 arg8 harg8 X k).2.2.1 =
    [⟨Rect.unit (s := S256x3328) (k0_off53 k) S32x128.size (k0_off53_inb k), valuesV (tile arg1 X k) 25⟩,
    ⟨Rect.unit (s := S256x3328) (k0_off52 k) S32x128.size (k0_off52_inb k), valuesV (tile arg1 X k) 24⟩,
    ⟨Rect.unit (s := S256x3328) (k0_off51 k) S32x128.size (k0_off51_inb k), valuesV (tile arg1 X k) 23⟩,
    ⟨Rect.unit (s := S256x3328) (k0_off50 k) S32x128.size (k0_off50_inb k), valuesV (tile arg1 X k) 22⟩,
    ⟨Rect.unit (s := S256x3328) (k0_off49 k) S32x128.size (k0_off49_inb k), valuesV (tile arg1 X k) 21⟩,
    ⟨Rect.unit (s := S256x3328) (k0_off48 k) S32x128.size (k0_off48_inb k), valuesV (tile arg1 X k) 20⟩,
    ⟨Rect.unit (s := S256x3328) (k0_off47 k) S32x128.size (k0_off47_inb k), valuesV (tile arg1 X k) 19⟩,
    ⟨Rect.unit (s := S256x3328) (k0_off46 k) S32x128.size (k0_off46_inb k), valuesV (tile arg1 X k) 18⟩,
    ⟨Rect.unit (s := S256x3328) (k0_off45 k) S32x128.size (k0_off45_inb k), valuesV (tile arg1 X k) 17⟩,
    ⟨Rect.unit (s := S256x3328) (k0_off44 k) S32x128.size (k0_off44_inb k), valuesV (tile arg1 X k) 16⟩,
    ⟨Rect.unit (s := S256x3328) (k0_off43 k) S32x128.size (k0_off43_inb k), valuesV (tile arg1 X k) 15⟩,
    ⟨Rect.unit (s := S256x3328) (k0_off42 k) S32x128.size (k0_off42_inb k), valuesV (tile arg1 X k) 14⟩,
    ⟨Rect.unit (s := S256x3328) (k0_off41 k) S32x128.size (k0_off41_inb k), valuesV (tile arg1 X k) 13⟩,
    ⟨Rect.unit (s := S256x3328) (k0_off40 k) S32x128.size (k0_off40_inb k), valuesV (tile arg1 X k) 12⟩,
    ⟨Rect.unit (s := S256x3328) (k0_off39 k) S32x128.size (k0_off39_inb k), valuesV (tile arg1 X k) 11⟩,
    ⟨Rect.unit (s := S256x3328) (k0_off38 k) S32x128.size (k0_off38_inb k), valuesV (tile arg1 X k) 10⟩,
    ⟨Rect.unit (s := S256x3328) (k0_off37 k) S32x128.size (k0_off37_inb k), valuesV (tile arg1 X k) 9⟩,
    ⟨Rect.unit (s := S256x3328) (k0_off36 k) S32x128.size (k0_off36_inb k), valuesV (tile arg1 X k) 8⟩,
    ⟨Rect.unit (s := S256x3328) (k0_off35 k) S32x128.size (k0_off35_inb k), valuesV (tile arg1 X k) 7⟩,
    ⟨Rect.unit (s := S256x3328) (k0_off34 k) S32x128.size (k0_off34_inb k), valuesV (tile arg1 X k) 6⟩,
    ⟨Rect.unit (s := S256x3328) (k0_off33 k) S32x128.size (k0_off33_inb k), valuesV (tile arg1 X k) 5⟩,
    ⟨Rect.unit (s := S256x3328) (k0_off32 k) S32x128.size (k0_off32_inb k), valuesV (tile arg1 X k) 4⟩,
    ⟨Rect.unit (s := S256x3328) (k0_off31 k) S32x128.size (k0_off31_inb k), valuesV (tile arg1 X k) 3⟩,
    ⟨Rect.unit (s := S256x3328) (k0_off30 k) S32x128.size (k0_off30_inb k), valuesV (tile arg1 X k) 2⟩,
    ⟨Rect.unit (s := S256x3328) (k0_off29 k) S32x128.size (k0_off29_inb k), valuesV (tile arg1 X k) 1⟩,
    ⟨Rect.unit (s := S256x3328) (k0_off28 k) S32x128.size (k0_off28_inb k), valuesV (tile arg1 X k) 0⟩] := by
  unfold trip_k0_t2; dsimp only
  rfl
end Cert.KernelIdeal.Quant

end
-- ==== Proof.WeightPieces.lean ====
module

public import proofs.«01_k».proof.Proof.Gen.KernelIdeal.Loops
public import proofs.«01_k».proof.Proof.Quant
public import Idealize.ShloMosaic.Lib.Pipeline.ValueKit

/-! The stores of one pass of the loop that dequantises the weights, each equal to a plain function of
    the weight codes and weight scales the pass loads. -/

@[expose] public section

set_option maxRecDepth 16384

noncomputable section

open Idealize.ShloMosaic Idealize.ShloMosaic.TcCoe Idealize.SL.Sem
open Cert.KernelIdeal Cert.KernelIdeal.Gen

namespace Cert.KernelIdeal.Quant

def weightV (S : FVec Ideal S32x128 .f32) (C : ℕ → FVec Ideal S32x128 .fp8e4m3) (v : ℕ) : FVec Ideal S32x128 .bf16 :=
  shapeCast S32x128 (mulf (extf .bf16 (C v) bitsLt_fp8e4m3_bf16)
    (truncf .bf16 (gatherV S (addi (shrsi lanes (broadcast S32x128 6#32)) (broadcast S32x128 (BitVec.ofNat 32 (2 * v))))) bitsLt_bf16_f32))
    shapeCasts_S32x128_S32x128

def wscale (i : grid0.Coords) (arg3 : Memref sig .tc .vmem S4992x128 .f32) (h1 : k0_cond1 i = 1#1) (X : BufTy.Contents (Elt Ideal) arg3.view.ty) (k : Fin k0_t1_loop.trips) : FVec Ideal S32x128 .f32 :=
  shapeCast S32x128 (View.readAt (Elt Ideal) arg3.view (Rect.unit (s := S4992x128) (k0_off1 k) S32x128.size (k0_off1_inb i k h1)).toLoadRect X) shapeCasts_S32x128_S32x128

def wtile (i : grid0.Coords) (arg2 : Memref sig .tc .vmem S4992x3328 .fp8e4m3) (h1 : k0_cond1 i = 1#1) (X : BufTy.Contents (Elt Ideal) arg2.view.ty) (k : Fin k0_t1_loop.trips) : ℕ → FVec Ideal S32x128 .fp8e4m3
  | 0 => View.readAt (Elt Ideal) arg2.view (Rect.unit (s := S4992x3328) (k0_off2 k) S32x128.size (k0_off2_inb i k h1)).toLoadRect X
  | 1 => View.readAt (Elt Ideal) arg2.view (Rect.unit (s := S4992x3328) (k0_off3 k) S32x128.size (k0_off3_inb i k h1)).toLoadRect X
  | 2 => View.readAt (Elt Ideal) arg2.view (Rect.unit (s := S4992x3328) (k0_off4 k) S32x128.size (k0_off4_inb i k h1)).toLoadRect X
  | 3 => View.readAt (Elt Ideal) arg2.view (Rect.unit (s := S4992x3328) (k0_off5 k) S32x128.size (k0_off5_inb i k h1)).toLoadRect X
  | 4 => View.readAt (Elt Ideal) arg2.view (Rect.unit (s := S4992x3328) (k0_off6 k) S32x128.size (k0_off6_inb i k h1)).toLoadRect X
  | 5 => View.readAt (Elt Ideal) arg2.view (Rect.unit (s := S4992x3328) (k0_off7 k) S32x128.size (k0_off7_inb i k h1)).toLoadRect X
  | 6 => View.readAt (Elt Ideal) arg2.view (Rect.unit (s := S4992x3328) (k0_off8 k) S32x128.size (k0_off8_inb i k h1)).toLoadRect X
  | 7 => View.readAt (Elt Ideal) arg2.view (Rect.unit (s := S4992x3328) (k0_off9 k) S32x128.size (k0_off9_inb i k h1)).toLoadRect X
  | 8 => View.readAt (Elt Ideal) arg2.view (Rect.unit (s := S4992x3328) (k0_off10 k) S32x128.size (k0_off10_inb i k h1)).toLoadRect X
  | 9 => View.readAt (Elt Ideal) arg2.view (Rect.unit (s := S4992x3328) (k0_off11 k) S32x128.size (k0_off11_inb i k h1)).toLoadRect X
  | 10 => View.readAt (Elt Ideal) arg2.view (Rect.unit (s := S4992x3328) (k0_off12 k) S32x128.size (k0_off12_inb i k h1)).toLoadRect X
  | 11 => View.readAt (Elt Ideal) arg2.view (Rect.unit (s := S4992x3328) (k0_off13 k) S32x128.size (k0_off13_inb i k h1)).toLoadRect X
  | 12 => View.readAt (Elt Ideal) arg2.view (Rect.unit (s := S4992x3328) (k0_off14 k) S32x128.size (k0_off14_inb i k h1)).toLoadRect X
  | 13 => View.readAt (Elt Ideal) arg2.view (Rect.unit (s := S4992x3328) (k0_off15 k) S32x128.size (k0_off15_inb i k h1)).toLoadRect X
  | 14 => View.readAt (Elt Ideal) arg2.view (Rect.unit (s := S4992x3328) (k0_off16 k) S32x128.size (k0_off16_inb i k h1)).toLoadRect X
  | 15 => View.readAt (Elt Ideal) arg2.view (Rect.unit (s := S4992x3328) (k0_off17 k) S32x128.size (k0_off17_inb i k h1)).toLoadRect X
  | 16 => View.readAt (Elt Ideal) arg2.view (Rect.unit (s := S4992x3328) (k0_off18 k) S32x128.size (k0_off18_inb i k h1)).toLoadRect X
  | 17 => View.readAt (Elt Ideal) arg2.view (Rect.unit (s := S4992x3328) (k0_off19 k) S32x128.size (k0_off19_inb i k h1)).toLoadRect X
  | 18 => View.readAt (Elt Ideal) arg2.view (Rect.unit (s := S4992x3328) (k0_off20 k) S32x128.size (k0_off20_inb i k h1)).toLoadRect X
  | 19 => View.readAt (Elt Ideal) arg2.view (Rect.unit (s := S4992x3328) (k0_off21 k) S32x128.size (k0_off21_inb i k h1)).toLoadRect X
  | 20 => View.readAt (Elt Ideal) arg2.view (Rect.unit (s := S4992x3328) (k0_off22 k) S32x128.size (k0_off22_inb i k h1)).toLoadRect X
  | 21 => View.readAt (Elt Ideal) arg2.view (Rect.unit (s := S4992x3328) (k0_off23 k) S32x128.size (k0_off23_inb i k h1)).toLoadRect X
  | 22 => View.readAt (Elt Ideal) arg2.view (Rect.unit (s := S4992x3328) (k0_off24 k) S32x128.size (k0_off24_inb i k h1)).toLoadRect X
  | 23 => View.readAt (Elt Ideal) arg2.view (Rect.unit (s := S4992x3328) (k0_off25 k) S32x128.size (k0_off25_inb i k h1)).toLoadRect X
  | 24 => View.readAt (Elt Ideal) arg2.view (Rect.unit (s := S4992x3328) (k0_off26 k) S32x128.size (k0_off26_inb i k h1)).toLoadRect X
  | 25 => View.readAt (Elt Ideal) arg2.view (Rect.unit (s := S4992x3328) (k0_off27 k) S32x128.size (k0_off27_inb i k h1)).toLoadRect X
  | _ => fun _ => 0

theorem weight_pieces (𝒱 : Variants) (c : Dev nD) (bd : Option 𝒱.V) (i : grid0.Coords) (arg1 : Memref sig .tc .vmem S256x3328 .bf16) (harg1 : arg1.IsWhole) (arg2 : Memref sig .tc .vmem S4992x3328 .fp8e4m3) (harg2 : arg2.IsWhole) (arg3 : Memref sig .tc .vmem S4992x128 .f32) (harg3 : arg3.IsWhole) (arg4 : Memref sig .tc .vmem S256x4992 .bf16) (harg4 : arg4.IsWhole) (arg5 : Memref sig .tc .vmem S256x3328 .fp8e4m3) (harg5 : arg5.IsWhole) (arg6 : Memref sig .tc .vmem S256x52 .f32) (harg6 : arg6.IsWhole) (arg7 : Memref sig .tc .vmem S4992x3328 .bf16) (harg7 : arg7.IsWhole) (arg8 : Memref sig .tc .vmem S256x3328 .bf16) (harg8 : arg8.IsWhole) (h1 : k0_cond1 i = 1#1) (X2 : BufTy.Contents (Elt Ideal) arg2.view.ty) (X3 : BufTy.Contents (Elt Ideal) arg3.view.ty) (k : Fin k0_t1_loop.trips) :
    (trip_k0_t1 (F := Ideal) 𝒱 c bd i arg1 harg1 arg2 harg2 arg3 harg3 arg4 harg4 arg5 harg5 arg6 harg6 arg7 harg7 arg8 harg8 h1 X2 X3 k).1 =
    [⟨Rect.unit (s := S4992x3328) (k0_off27 k) S32x128.size (k0_off27_inb i k h1), weightV (wscale i arg3 h1 X3 k) (wtile i arg2 h1 X2 k) 25⟩,
    ⟨Rect.unit (s := S4992x3328) (k0_off26 k) S32x128.size (k0_off26_inb i k h1), weightV (wscale i arg3 h1 X3 k) (wtile i arg2 h1 X2 k) 24⟩,
    ⟨Rect.unit (s := S4992x3328) (k0_off25 k) S32x128.size (k0_off25_inb i k h1), weightV (wscale i arg3 h1 X3 k) (wtile i arg2 h1 X2 k) 23⟩,
    ⟨Rect.unit (s := S4992x3328) (k0_off24 k) S32x128.size (k0_off24_inb i k h1), weightV (wscale i arg3 h1 X3 k) (wtile i arg2 h1 X2 k) 22⟩,
    ⟨Rect.unit (s := S4992x3328) (k0_off23 k) S32x128.size (k0_off23_inb i k h1), weightV (wscale i arg3 h1 X3 k) (wtile i arg2 h1 X2 k) 21⟩,
    ⟨Rect.unit (s := S4992x3328) (k0_off22 k) S32x128.size (k0_off22_inb i k h1), weightV (wscale i arg3 h1 X3 k) (wtile i arg2 h1 X2 k) 20⟩,
    ⟨Rect.unit (s := S4992x3328) (k0_off21 k) S32x128.size (k0_off21_inb i k h1), weightV (wscale i arg3 h1 X3 k) (wtile i arg2 h1 X2 k) 19⟩,
    ⟨Rect.unit (s := S4992x3328) (k0_off20 k) S32x128.size (k0_off20_inb i k h1), weightV (wscale i arg3 h1 X3 k) (wtile i arg2 h1 X2 k) 18⟩,
    ⟨Rect.unit (s := S4992x3328) (k0_off19 k) S32x128.size (k0_off19_inb i k h1), weightV (wscale i arg3 h1 X3 k) (wtile i arg2 h1 X2 k) 17⟩,
    ⟨Rect.unit (s := S4992x3328) (k0_off18 k) S32x128.size (k0_off18_inb i k h1), weightV (wscale i arg3 h1 X3 k) (wtile i arg2 h1 X2 k) 16⟩,
    ⟨Rect.unit (s := S4992x3328) (k0_off17 k) S32x128.size (k0_off17_inb i k h1), weightV (wscale i arg3 h1 X3 k) (wtile i arg2 h1 X2 k) 15⟩,
    ⟨Rect.unit (s := S4992x3328) (k0_off16 k) S32x128.size (k0_off16_inb i k h1), weightV (wscale i arg3 h1 X3 k) (wtile i arg2 h1 X2 k) 14⟩,
    ⟨Rect.unit (s := S4992x3328) (k0_off15 k) S32x128.size (k0_off15_inb i k h1), weightV (wscale i arg3 h1 X3 k) (wtile i arg2 h1 X2 k) 13⟩,
    ⟨Rect.unit (s := S4992x3328) (k0_off14 k) S32x128.size (k0_off14_inb i k h1), weightV (wscale i arg3 h1 X3 k) (wtile i arg2 h1 X2 k) 12⟩,
    ⟨Rect.unit (s := S4992x3328) (k0_off13 k) S32x128.size (k0_off13_inb i k h1), weightV (wscale i arg3 h1 X3 k) (wtile i arg2 h1 X2 k) 11⟩,
    ⟨Rect.unit (s := S4992x3328) (k0_off12 k) S32x128.size (k0_off12_inb i k h1), weightV (wscale i arg3 h1 X3 k) (wtile i arg2 h1 X2 k) 10⟩,
    ⟨Rect.unit (s := S4992x3328) (k0_off11 k) S32x128.size (k0_off11_inb i k h1), weightV (wscale i arg3 h1 X3 k) (wtile i arg2 h1 X2 k) 9⟩,
    ⟨Rect.unit (s := S4992x3328) (k0_off10 k) S32x128.size (k0_off10_inb i k h1), weightV (wscale i arg3 h1 X3 k) (wtile i arg2 h1 X2 k) 8⟩,
    ⟨Rect.unit (s := S4992x3328) (k0_off9 k) S32x128.size (k0_off9_inb i k h1), weightV (wscale i arg3 h1 X3 k) (wtile i arg2 h1 X2 k) 7⟩,
    ⟨Rect.unit (s := S4992x3328) (k0_off8 k) S32x128.size (k0_off8_inb i k h1), weightV (wscale i arg3 h1 X3 k) (wtile i arg2 h1 X2 k) 6⟩,
    ⟨Rect.unit (s := S4992x3328) (k0_off7 k) S32x128.size (k0_off7_inb i k h1), weightV (wscale i arg3 h1 X3 k) (wtile i arg2 h1 X2 k) 5⟩,
    ⟨Rect.unit (s := S4992x3328) (k0_off6 k) S32x128.size (k0_off6_inb i k h1), weightV (wscale i arg3 h1 X3 k) (wtile i arg2 h1 X2 k) 4⟩,
    ⟨Rect.unit (s := S4992x3328) (k0_off5 k) S32x128.size (k0_off5_inb i k h1), weightV (wscale i arg3 h1 X3 k) (wtile i arg2 h1 X2 k) 3⟩,
    ⟨Rect.unit (s := S4992x3328) (k0_off4 k) S32x128.size (k0_off4_inb i k h1), weightV (wscale i arg3 h1 X3 k) (wtile i arg2 h1 X2 k) 2⟩,
    ⟨Rect.unit (s := S4992x3328) (k0_off3 k) S32x128.size (k0_off3_inb i k h1), weightV (wscale i arg3 h1 X3 k) (wtile i arg2 h1 X2 k) 1⟩,
    ⟨Rect.unit (s := S4992x3328) (k0_off2 k) S32x128.size (k0_off2_inb i k h1), weightV (wscale i arg3 h1 X3 k) (wtile i arg2 h1 X2 k) 0⟩] := by
  unfold trip_k0_t1; dsimp only
  rfl
end Cert.KernelIdeal.Quant

end
-- ==== Proof.Blocks.lean ====
module

public import proofs.«01_k».proof.Proof.Gen.KernelIdeal.Loops
public import proofs.«01_k».proof.Proof.QuantPieces
public import proofs.«01_k».proof.Proof.WeightPieces
public import Idealize.ShloMosaic.Lib.Pipeline.ValueKit

/-! Blocks of a matrix as tiles, and what a pass of each loop stores, read entry by entry. -/

@[expose] public section

set_option maxRecDepth 16384

noncomputable section

open Idealize.ShloMosaic Idealize.ShloMosaic.TcCoe Idealize.SL.Sem
open Cert.KernelIdeal Cert.KernelIdeal.Gen

namespace Cert.KernelIdeal.Quant

/-- a matrix cut into tiles of 32 rows by 128 lanes -/
def tilesOf {α : Type} [Zero α] {R C : ℕ} (x : (⟨2, ![R, C]⟩ : Shape).Idx → α) (k v : ℕ) : S32x128.Idx → α := fun j =>
  if h : 32 * k + 32 ≤ R ∧ 128 * v + 128 ≤ C then
    x (ix2 ⟨32 * k + (j 0).val, by have : (j 0).val < 32 := (j 0).isLt; omega⟩ ⟨128 * v + (j 1).val, by have : (j 1).val < 128 := (j 1).isLt; omega⟩)
  else 0

/-- the matrix whose tiles are given -/
def ofTiles {α : Type} {R C : ℕ} (f : ℕ → ℕ → S32x128.Idx → α) : (⟨2, ![R, C]⟩ : Shape).Idx → α := fun y =>
  f ((y 0).val / 32) ((y 1).val / 128) (ix2 ⟨(y 0).val % 32, Nat.mod_lt _ (by decide)⟩ ⟨(y 1).val % 128, Nat.mod_lt _ (by decide)⟩)

theorem read_tile {R C : ℕ} {e : EltTy} [Zero (Elt Ideal e)] (m : Memref sig .tc .vmem (⟨2, ![R, C]⟩ : Shape) e) (hm : m.IsWhole)
    (x : (⟨2, ![R, C]⟩ : Shape).Idx → Elt Ideal e) (off : Fin 2 → ℕ) (inb) (k v : ℕ) (hoff : off = ![32 * k, 128 * v]) :
    View.readAt (Elt Ideal) m.view (Rect.unit (s := (⟨2, ![R, C]⟩ : Shape)) off S32x128.size inb).toLoadRect (hm.unread x) = tilesOf x k v := by
  subst hoff
  funext j
  refine (congrFun (hm.read_unread x) _).trans ?_
  have h : 32 * k + 32 ≤ R ∧ 128 * v + 128 ≤ C := ⟨inb 0, inb 1⟩
  rw [tilesOf, dif_pos h]
  congr 1
  funext a
  apply Fin.ext
  match a with
  | 0 => exact ValueKit.rect_emb_unit_val _ _ inb j 0
  | 1 => exact ValueKit.rect_emb_unit_val _ _ inb j 1

theorem piece_tile {α : Type} {R C : ℕ} (f : ℕ → ℕ → S32x128.Idx → α) (off : Fin 2 → ℕ) (inb) (k v : ℕ) (hoff : off = ![32 * k, 128 * v])
    (j : (Rect.unit (s := (⟨2, ![R, C]⟩ : Shape)) off S32x128.size inb).shape.Idx) :
    f k v j = ofTiles f ((Rect.unit (s := (⟨2, ![R, C]⟩ : Shape)) off S32x128.size inb).emb j) := by
  subst hoff
  have e0 : (((Rect.unit (s := (⟨2, ![R, C]⟩ : Shape)) ![32 * k, 128 * v] S32x128.size inb).emb j) 0).val = 32 * k + (j 0).val := ValueKit.rect_emb_unit_val _ _ inb j 0
  have e1 : (((Rect.unit (s := (⟨2, ![R, C]⟩ : Shape)) ![32 * k, 128 * v] S32x128.size inb).emb j) 1).val = 128 * v + (j 1).val := ValueKit.rect_emb_unit_val _ _ inb j 1
  have b0 : (j 0).val < 32 := (j 0).isLt
  have b1 : (j 1).val < 128 := (j 1).isLt
  have d0 : (32 * k + (j 0).val) / 32 = k := by omega
  have d1 : (128 * v + (j 1).val) / 128 = v := by omega
  have m0 : (32 * k + (j 0).val) % 32 = (j 0).val := by omega
  have m1 : (128 * v + (j 1).val) % 128 = (j 1).val := by omega
  unfold ofTiles
  simp only [e0, e1, d0, d1, m0, m1]
  congr 1
  funext a
  match a with
  | 0 => rfl
  | 1 => rfl

theorem tile_eq (arg1 : Memref sig .tc .vmem S256x3328 .bf16) (harg1 : arg1.IsWhole) (x : Vec Ideal S256x3328 .bf16) (k : Fin k0_t2_loop.trips) :
    tile arg1 (harg1.unread x) k = tilesOf (R := 256) (C := 3328) (α := EReal) x k.val := by
  funext v
  match v with
  | 0 => exact (shapeCast_self _ _).trans (read_tile arg1 harg1 x _ _ k.val 0 (k0_off28_eq k))
  | 1 => exact (shapeCast_self _ _).trans (read_tile arg1 harg1 x _ _ k.val 1 (k0_off29_eq k))
  | 2 => exact (shapeCast_self _ _).trans (read_tile arg1 harg1 x _ _ k.val 2 (k0_off30_eq k))
  | 3 => exact (shapeCast_self _ _).trans (read_tile arg1 harg1 x _ _ k.val 3 (k0_off31_eq k))
  | 4 => exact (shapeCast_self _ _).trans (read_tile arg1 harg1 x _ _ k.val 4 (k0_off32_eq k))
  | 5 => exact (shapeCast_self _ _).trans (read_tile arg1 harg1 x _ _ k.val 5 (k0_off33_eq k))
  | 6 => exact (shapeCast_self _ _).trans (read_tile arg1 harg1 x _ _ k.val 6 (k0_off34_eq k))
  | 7 => exact (shapeCast_self _ _).trans (read_tile arg1 harg1 x _ _ k.val 7 (k0_off35_eq k))
  | 8 => exact (shapeCast_self _ _).trans (read_tile arg1 harg1 x _ _ k.val 8 (k0_off36_eq k))
  | 9 => exact (shapeCast_self _ _).trans (read_tile arg1 harg1 x _ _ k.val 9 (k0_off37_eq k))
  | 10 => exact (shapeCast_self _ _).trans (read_tile arg1 harg1 x _ _ k.val 10 (k0_off38_eq k))
  | 11 => exact (shapeCast_self _ _).trans (read_tile arg1 harg1 x _ _ k.val 11 (k0_off39_eq k))
  | 12 => exact (shapeCast_self _ _).trans (read_tile arg1 harg1 x _ _ k.val 12 (k0_off40_eq k))
  | 13 => exact (shapeCast_self _ _).trans (read_tile arg1 harg1 x _ _ k.val 13 (k0_off41_eq k))
  | 14 => exact (shapeCast_self _ _).trans (read_tile arg1 harg1 x _ _ k.val 14 (k0_off42_eq k))
  | 15 => exact (shapeCast_self _ _).trans (read_tile arg1 harg1 x _ _ k.val 15 (k0_off43_eq k))
  | 16 => exact (shapeCast_self _ _).trans (read_tile arg1 harg1 x _ _ k.val 16 (k0_off44_eq k))
  | 17 => exact (shapeCast_self _ _).trans (read_tile arg1 harg1 x _ _ k.val 17 (k0_off45_eq k))
  | 18 => exact (shapeCast_self _ _).trans (read_tile arg1 harg1 x _ _ k.val 18 (k0_off46_eq k))
  | 19 => exact (shapeCast_self _ _).trans (read_tile arg1 harg1 x _ _ k.val 19 (k0_off47_eq k))
  | 20 => exact (shapeCast_self _ _).trans (read_tile arg1 harg1 x _ _ k.val 20 (k0_off48_eq k))
  | 21 => exact (shapeCast_self _ _).trans (read_tile arg1 harg1 x _ _ k.val 21 (k0_off49_eq k))
  | 22 => exact (shapeCast_self _ _).trans (read_tile arg1 harg1 x _ _ k.val 22 (k0_off50_eq k))
  | 23 => exact (shapeCast_self _ _).trans (read_tile arg1 harg1 x _ _ k.val 23 (k0_off51_eq k))
  | 24 => exact (shapeCast_self _ _).trans (read_tile arg1 harg1 x _ _ k.val 24 (k0_off52_eq k))
  | 25 => exact (shapeCast_self _ _).trans (read_tile arg1 harg1 x _ _ k.val 25 (k0_off53_eq k))
  | n + 26 => exact funext fun j => (dif_neg (fun h => by have := h.2; omega) : tilesOf (R := 256) (C := 3328) (α := EReal) x k.val (n + 26) j = 0).symm

theorem wtile_eq (i : grid0.Coords) (arg2 : Memref sig .tc .vmem S4992x3328 .fp8e4m3) (harg2 : arg2.IsWhole) (h1 : k0_cond1 i = 1#1) (x : Vec Ideal S4992x3328 .fp8e4m3) (k : Fin k0_t1_loop.trips) :
    wtile i arg2 h1 (harg2.unread x) k = tilesOf (R := 4992) (C := 3328) (α := EReal) x k.val := by
  funext v
  match v with
  | 0 => exact read_tile arg2 harg2 x _ _ k.val 0 (k0_off2_eq k)
  | 1 => exact read_tile arg2 harg2 x _ _ k.val 1 (k0_off3_eq k)
  | 2 => exact read_tile arg2 harg2 x _ _ k.val 2 (k0_off4_eq k)
  | 3 => exact read_tile arg2 harg2 x _ _ k.val 3 (k0_off5_eq k)
  | 4 => exact read_tile arg2 harg2 x _ _ k.val 4 (k0_off6_eq k)
  | 5 => exact read_tile arg2 harg2 x _ _ k.val 5 (k0_off7_eq k)
  | 6 => exact read_tile arg2 harg2 x _ _ k.val 6 (k0_off8_eq k)
  | 7 => exact read_tile arg2 harg2 x _ _ k.val 7 (k0_off9_eq k)
  | 8 => exact read_tile arg2 harg2 x _ _ k.val 8 (k0_off10_eq k)
  | 9 => exact read_tile arg2 harg2 x _ _ k.val 9 (k0_off11_eq k)
  | 10 => exact read_tile arg2 harg2 x _ _ k.val 10 (k0_off12_eq k)
  | 11 => exact read_tile arg2 harg2 x _ _ k.val 11 (k0_off13_eq k)
  | 12 => exact read_tile arg2 harg2 x _ _ k.val 12 (k0_off14_eq k)
  | 13 => exact read_tile arg2 harg2 x _ _ k.val 13 (k0_off15_eq k)
  | 14 => exact read_tile arg2 harg2 x _ _ k.val 14 (k0_off16_eq k)
  | 15 => exact read_tile arg2 harg2 x _ _ k.val 15 (k0_off17_eq k)
  | 16 => exact read_tile arg2 harg2 x _ _ k.val 16 (k0_off18_eq k)
  | 17 => exact read_tile arg2 harg2 x _ _ k.val 17 (k0_off19_eq k)
  | 18 => exact read_tile arg2 harg2 x _ _ k.val 18 (k0_off20_eq k)
  | 19 => exact read_tile arg2 harg2 x _ _ k.val 19 (k0_off21_eq k)
  | 20 => exact read_tile arg2 harg2 x _ _ k.val 20 (k0_off22_eq k)
  | 21 => exact read_tile arg2 harg2 x _ _ k.val 21 (k0_off23_eq k)
  | 22 => exact read_tile arg2 harg2 x _ _ k.val 22 (k0_off24_eq k)
  | 23 => exact read_tile arg2 harg2 x _ _ k.val 23 (k0_off25_eq k)
  | 24 => exact read_tile arg2 harg2 x _ _ k.val 24 (k0_off26_eq k)
  | 25 => exact read_tile arg2 harg2 x _ _ k.val 25 (k0_off27_eq k)
  | n + 26 => exact funext fun j => (dif_neg (fun h => by have := h.2; omega) : tilesOf (R := 4992) (C := 3328) (α := EReal) x k.val (n + 26) j = 0).symm

theorem wscale_eq (i : grid0.Coords) (arg3 : Memref sig .tc .vmem S4992x128 .f32) (harg3 : arg3.IsWhole) (h1 : k0_cond1 i = 1#1) (x : Vec Ideal S4992x128 .f32) (k : Fin k0_t1_loop.trips) :
    wscale i arg3 h1 (harg3.unread x) k = tilesOf (R := 4992) (C := 128) (α := EReal) x k.val 0 :=
  (shapeCast_self _ _).trans (read_tile arg3 harg3 x _ _ k.val 0 (k0_off1_eq k))

end Cert.KernelIdeal.Quant

end
-- ==== Proof.Rows.lean ====
module

public import proofs.«01_k».proof.Proof.Gen.KernelIdeal.Loops
public import proofs.«01_k».proof.Proof.Blocks
public import Idealize.ShloMosaic.Lib.Pipeline.ReadBack
public import Idealize.ShloMosaic.Lib.Pipeline.ValueKit

/-! The loops' stores together: after all passes a buffer holds one function of the kernel's input blocks. -/

@[expose] public section

set_option maxRecDepth 16384

noncomputable section

open Idealize.ShloMosaic Idealize.ShloMosaic.TcCoe Idealize.SL.Sem
open Cert.KernelIdeal Cert.KernelIdeal.Gen

namespace Cert.KernelIdeal.Quant

def Agree {s : Shape} {e : EltTy} (G : s.Idx → Elt Ideal e) (L : List (View.Piece (Elt Ideal) s e)) : Prop :=
  ∀ p ∈ L, ∀ x : p.1.shape.Idx, p.2 x = G (p.1.emb x)

theorem Agree.nil {s : Shape} {e : EltTy} (G : s.Idx → Elt Ideal e) : Agree G [] := fun _ h => absurd h List.not_mem_nil

theorem Agree.append {s : Shape} {e : EltTy} {G : s.Idx → Elt Ideal e} {L L' : List (View.Piece (Elt Ideal) s e)}
    (h : Agree G L) (h' : Agree G L') : Agree G (L ++ L') := fun p hp =>
  (List.mem_append.mp hp).elim (h p) (h' p)

theorem Agree.canon {s : Shape} {e : EltTy} [∀ e, Nonempty (Elt Ideal e)] {G : s.Idx → Elt Ideal e} {L : List (View.Piece (Elt Ideal) s e)}
    (h : Agree G L) (hc : ∀ y, ∃ p ∈ L, y ∈ p.1.set) : View.canon L = G :=
  funext fun y => View.canon_apply_of_pieces G L h y (hc y)

def codesOf (x : Vec Ideal S256x3328 .bf16) : Vec Ideal S256x3328 .fp8e4m3 :=
  ofTiles (R := 256) (C := 3328) fun k v => codesV (tilesOf (R := 256) (C := 3328) (α := EReal) x k) v
def valuesOf (x : Vec Ideal S256x3328 .bf16) : Vec Ideal S256x3328 .bf16 :=
  ofTiles (R := 256) (C := 3328) fun k v => valuesV (tilesOf (R := 256) (C := 3328) (α := EReal) x k) v
def scaleOf (x : Vec Ideal S256x3328 .bf16) : Vec Ideal S256x52 .f32 := fun y =>
  compactV (tilesOf (R := 256) (C := 3328) (α := EReal) x ((y 0).val / 32))
    (ix2 ⟨(y 0).val % 32, Nat.mod_lt _ (by decide)⟩ ⟨(y 1).val, by have : (y 1).val < 52 := (y 1).isLt; omega⟩)
def weightOf (x1 : Vec Ideal S4992x3328 .fp8e4m3) (x2 : Vec Ideal S4992x128 .f32) : Vec Ideal S4992x3328 .bf16 :=
  ofTiles (R := 4992) (C := 3328) fun k v => weightV (tilesOf (R := 4992) (C := 128) (α := EReal) x2 k 0) (tilesOf (R := 4992) (C := 3328) (α := EReal) x1 k) v

section
variable (𝒱 : Variants) (c : Dev nD) (bd : Option 𝒱.V) (i : grid0.Coords) (arg1 : Memref sig .tc .vmem S256x3328 .bf16) (harg1 : arg1.IsWhole) (arg2 : Memref sig .tc .vmem S4992x3328 .fp8e4m3) (harg2 : arg2.IsWhole) (arg3 : Memref sig .tc .vmem S4992x128 .f32) (harg3 : arg3.IsWhole) (arg4 : Memref sig .tc .vmem S256x4992 .bf16) (harg4 : arg4.IsWhole) (arg5 : Memref sig .tc .vmem S256x3328 .fp8e4m3) (harg5 : arg5.IsWhole) (arg6 : Memref sig .tc .vmem S256x52 .f32) (harg6 : arg6.IsWhole) (arg7 : Memref sig .tc .vmem S4992x3328 .bf16) (harg7 : arg7.IsWhole) (arg8 : Memref sig .tc .vmem S256x3328 .bf16) (harg8 : arg8.IsWhole)

theorem codes_trip (x : Vec Ideal S256x3328 .bf16) (k : Fin k0_t2_loop.trips) :
    Agree (codesOf x) (trip_k0_t2 (F := Ideal) 𝒱 c bd i arg1 harg1 arg2 harg2 arg3 harg3 arg4 harg4 arg5 harg5 arg6 harg6 arg7 harg7 arg8 harg8 (harg1.unread x) k).1 := by
  rw [codes_pieces, tile_eq]
  refine View.PiecesOf.mem ⟨piece_tile (R := 256) (C := 3328) (fun k v => codesV (tilesOf (R := 256) (C := 3328) (α := EReal) x k) v) _ (k0_off53_inb k) k.val 25 (k0_off53_eq k), piece_tile (R := 256) (C := 3328) (fun k v => codesV (tilesOf (R := 256) (C := 3328) (α := EReal) x k) v) _ (k0_off52_inb k) k.val 24 (k0_off52_eq k), piece_tile (R := 256) (C := 3328) (fun k v => codesV (tilesOf (R := 256) (C := 3328) (α := EReal) x k) v) _ (k0_off51_inb k) k.val 23 (k0_off51_eq k), piece_tile (R := 256) (C := 3328) (fun k v => codesV (tilesOf (R := 256) (C := 3328) (α := EReal) x k) v) _ (k0_off50_inb k) k.val 22 (k0_off50_eq k), piece_tile (R := 256) (C := 3328) (fun k v => codesV (tilesOf (R := 256) (C := 3328) (α := EReal) x k) v) _ (k0_off49_inb k) k.val 21 (k0_off49_eq k), piece_tile (R := 256) (C := 3328) (fun k v => codesV (tilesOf (R := 256) (C := 3328) (α := EReal) x k) v) _ (k0_off48_inb k) k.val 20 (k0_off48_eq k), piece_tile (R := 256) (C := 3328) (fun k v => codesV (tilesOf (R := 256) (C := 3328) (α := EReal) x k) v) _ (k0_off47_inb k) k.val 19 (k0_off47_eq k), piece_tile (R := 256) (C := 3328) (fun k v => codesV (tilesOf (R := 256) (C := 3328) (α := EReal) x k) v) _ (k0_off46_inb k) k.val 18 (k0_off46_eq k), piece_tile (R := 256) (C := 3328) (fun k v => codesV (tilesOf (R := 256) (C := 3328) (α := EReal) x k) v) _ (k0_off45_inb k) k.val 17 (k0_off45_eq k), piece_tile (R := 256) (C := 3328) (fun k v => codesV (tilesOf (R := 256) (C := 3328) (α := EReal) x k) v) _ (k0_off44_inb k) k.val 16 (k0_off44_eq k), piece_tile (R := 256) (C := 3328) (fun k v => codesV (tilesOf (R := 256) (C := 3328) (α := EReal) x k) v) _ (k0_off43_inb k) k.val 15 (k0_off43_eq k), piece_tile (R := 256) (C := 3328) (fun k v => codesV (tilesOf (R := 256) (C := 3328) (α := EReal) x k) v) _ (k0_off42_inb k) k.val 14 (k0_off42_eq k), piece_tile (R := 256) (C := 3328) (fun k v => codesV (tilesOf (R := 256) (C := 3328) (α := EReal) x k) v) _ (k0_off41_inb k) k.val 13 (k0_off41_eq k), piece_tile (R := 256) (C := 3328) (fun k v => codesV (tilesOf (R := 256) (C := 3328) (α := EReal) x k) v) _ (k0_off40_inb k) k.val 12 (k0_off40_eq k), piece_tile (R := 256) (C := 3328) (fun k v => codesV (tilesOf (R := 256) (C := 3328) (α := EReal) x k) v) _ (k0_off39_inb k) k.val 11 (k0_off39_eq k), piece_tile (R := 256) (C := 3328) (fun k v => codesV (tilesOf (R := 256) (C := 3328) (α := EReal) x k) v) _ (k0_off38_inb k) k.val 10 (k0_off38_eq k), piece_tile (R := 256) (C := 3328) (fun k v => codesV (tilesOf (R := 256) (C := 3328) (α := EReal) x k) v) _ (k0_off37_inb k) k.val 9 (k0_off37_eq k), piece_tile (R := 256) (C := 3328) (fun k v => codesV (tilesOf (R := 256) (C := 3328) (α := EReal) x k) v) _ (k0_off36_inb k) k.val 8 (k0_off36_eq k), piece_tile (R := 256) (C := 3328) (fun k v => codesV (tilesOf (R := 256) (C := 3328) (α := EReal) x k) v) _ (k0_off35_inb k) k.val 7 (k0_off35_eq k), piece_tile (R := 256) (C := 3328) (fun k v => codesV (tilesOf (R := 256) (C := 3328) (α := EReal) x k) v) _ (k0_off34_inb k) k.val 6 (k0_off34_eq k), piece_tile (R := 256) (C := 3328) (fun k v => codesV (tilesOf (R := 256) (C := 3328) (α := EReal) x k) v) _ (k0_off33_inb k) k.val 5 (k0_off33_eq k), piece_tile (R := 256) (C := 3328) (fun k v => codesV (tilesOf (R := 256) (C := 3328) (α := EReal) x k) v) _ (k0_off32_inb k) k.val 4 (k0_off32_eq k), piece_tile (R := 256) (C := 3328) (fun k v => codesV (tilesOf (R := 256) (C := 3328) (α := EReal) x k) v) _ (k0_off31_inb k) k.val 3 (k0_off31_eq k), piece_tile (R := 256) (C := 3328) (fun k v => codesV (tilesOf (R := 256) (C := 3328) (α := EReal) x k) v) _ (k0_off30_inb k) k.val 2 (k0_off30_eq k), piece_tile (R := 256) (C := 3328) (fun k v => codesV (tilesOf (R := 256) (C := 3328) (α := EReal) x k) v) _ (k0_off29_inb k) k.val 1 (k0_off29_eq k), piece_tile (R := 256) (C := 3328) (fun k v => codesV (tilesOf (R := 256) (C := 3328) (α := EReal) x k) v) _ (k0_off28_inb k) k.val 0 (k0_off28_eq k), trivial⟩

theorem values_trip (x : Vec Ideal S256x3328 .bf16) (k : Fin k0_t2_loop.trips) :
    Agree (valuesOf x) (trip_k0_t2 (F := Ideal) 𝒱 c bd i arg1 harg1 arg2 harg2 arg3 harg3 arg4 harg4 arg5 harg5 arg6 harg6 arg7 harg7 arg8 harg8 (harg1.unread x) k).2.2.1 := by
  rw [values_pieces, tile_eq]
  refine View.PiecesOf.mem ⟨piece_tile (R := 256) (C := 3328) (fun k v => valuesV (tilesOf (R := 256) (C := 3328) (α := EReal) x k) v) _ (k0_off53_inb k) k.val 25 (k0_off53_eq k), piece_tile (R := 256) (C := 3328) (fun k v => valuesV (tilesOf (R := 256) (C := 3328) (α := EReal) x k) v) _ (k0_off52_inb k) k.val 24 (k0_off52_eq k), piece_tile (R := 256) (C := 3328) (fun k v => valuesV (tilesOf (R := 256) (C := 3328) (α := EReal) x k) v) _ (k0_off51_inb k) k.val 23 (k0_off51_eq k), piece_tile (R := 256) (C := 3328) (fun k v => valuesV (tilesOf (R := 256) (C := 3328) (α := EReal) x k) v) _ (k0_off50_inb k) k.val 22 (k0_off50_eq k), piece_tile (R := 256) (C := 3328) (fun k v => valuesV (tilesOf (R := 256) (C := 3328) (α := EReal) x k) v) _ (k0_off49_inb k) k.val 21 (k0_off49_eq k), piece_tile (R := 256) (C := 3328) (fun k v => valuesV (tilesOf (R := 256) (C := 3328) (α := EReal) x k) v) _ (k0_off48_inb k) k.val 20 (k0_off48_eq k), piece_tile (R := 256) (C := 3328) (fun k v => valuesV (tilesOf (R := 256) (C := 3328) (α := EReal) x k) v) _ (k0_off47_inb k) k.val 19 (k0_off47_eq k), piece_tile (R := 256) (C := 3328) (fun k v => valuesV (tilesOf (R := 256) (C := 3328) (α := EReal) x k) v) _ (k0_off46_inb k) k.val 18 (k0_off46_eq k), piece_tile (R := 256) (C := 3328) (fun k v => valuesV (tilesOf (R := 256) (C := 3328) (α := EReal) x k) v) _ (k0_off45_inb k) k.val 17 (k0_off45_eq k), piece_tile (R := 256) (C := 3328) (fun k v => valuesV (tilesOf (R := 256) (C := 3328) (α := EReal) x k) v) _ (k0_off44_inb k) k.val 16 (k0_off44_eq k), piece_tile (R := 256) (C := 3328) (fun k v => valuesV (tilesOf (R := 256) (C := 3328) (α := EReal) x k) v) _ (k0_off43_inb k) k.val 15 (k0_off43_eq k), piece_tile (R := 256) (C := 3328) (fun k v => valuesV (tilesOf (R := 256) (C := 3328) (α := EReal) x k) v) _ (k0_off42_inb k) k.val 14 (k0_off42_eq k), piece_tile (R := 256) (C := 3328) (fun k v => valuesV (tilesOf (R := 256) (C := 3328) (α := EReal) x k) v) _ (k0_off41_inb k) k.val 13 (k0_off41_eq k), piece_tile (R := 256) (C := 3328) (fun k v => valuesV (tilesOf (R := 256) (C := 3328) (α := EReal) x k) v) _ (k0_off40_inb k) k.val 12 (k0_off40_eq k), piece_tile (R := 256) (C := 3328) (fun k v => valuesV (tilesOf (R := 256) (C := 3328) (α := EReal) x k) v) _ (k0_off39_inb k) k.val 11 (k0_off39_eq k), piece_tile (R := 256) (C := 3328) (fun k v => valuesV (tilesOf (R := 256) (C := 3328) (α := EReal) x k) v) _ (k0_off38_inb k) k.val 10 (k0_off38_eq k), piece_tile (R := 256) (C := 3328) (fun k v => valuesV (tilesOf (R := 256) (C := 3328) (α := EReal) x k) v) _ (k0_off37_inb k) k.val 9 (k0_off37_eq k), piece_tile (R := 256) (C := 3328) (fun k v => valuesV (tilesOf (R := 256) (C := 3328) (α := EReal) x k) v) _ (k0_off36_inb k) k.val 8 (k0_off36_eq k), piece_tile (R := 256) (C := 3328) (fun k v => valuesV (tilesOf (R := 256) (C := 3328) (α := EReal) x k) v) _ (k0_off35_inb k) k.val 7 (k0_off35_eq k), piece_tile (R := 256) (C := 3328) (fun k v => valuesV (tilesOf (R := 256) (C := 3328) (α := EReal) x k) v) _ (k0_off34_inb k) k.val 6 (k0_off34_eq k), piece_tile (R := 256) (C := 3328) (fun k v => valuesV (tilesOf (R := 256) (C := 3328) (α := EReal) x k) v) _ (k0_off33_inb k) k.val 5 (k0_off33_eq k), piece_tile (R := 256) (C := 3328) (fun k v => valuesV (tilesOf (R := 256) (C := 3328) (α := EReal) x k) v) _ (k0_off32_inb k) k.val 4 (k0_off32_eq k), piece_tile (R := 256) (C := 3328) (fun k v => valuesV (tilesOf (R := 256) (C := 3328) (α := EReal) x k) v) _ (k0_off31_inb k) k.val 3 (k0_off31_eq k), piece_tile (R := 256) (C := 3328) (fun k v => valuesV (tilesOf (R := 256) (C := 3328) (α := EReal) x k) v) _ (k0_off30_inb k) k.val 2 (k0_off30_eq k), piece_tile (R := 256) (C := 3328) (fun k v => valuesV (tilesOf (R := 256) (C := 3328) (α := EReal) x k) v) _ (k0_off29_inb k) k.val 1 (k0_off29_eq k), piece_tile (R := 256) (C := 3328) (fun k v => valuesV (tilesOf (R := 256) (C := 3328) (α := EReal) x k) v) _ (k0_off28_inb k) k.val 0 (k0_off28_eq k), trivial⟩

theorem scale_piece (f : ℕ → S32x128.Idx → EReal) (off : Fin 2 → ℕ) (inb) (k : ℕ) (hoff : off = ![32 * k, 0])
    (j : (Rect.unit (s := S256x52) off S32x52.size inb).shape.Idx) :
    (extractStridedSlice S32x52 ![0, 0] (f k) slices_S32x128_o0_0_S32x52 : S32x52.Idx → EReal) j =
      f ((((Rect.unit (s := S256x52) off S32x52.size inb).emb j) 0).val / 32)
        (ix2 ⟨(((Rect.unit (s := S256x52) off S32x52.size inb).emb j) 0).val % 32, Nat.mod_lt _ (by decide)⟩
          ⟨(((Rect.unit (s := S256x52) off S32x52.size inb).emb j) 1).val,
            by have : (((Rect.unit (s := S256x52) off S32x52.size inb).emb j) 1).val < 52 := Fin.isLt _; omega⟩) := by
  subst hoff
  have e0 : (((Rect.unit (s := S256x52) ![32 * k, 0] S32x52.size inb).emb j) 0).val = 32 * k + (j 0).val := ValueKit.rect_emb_unit_val _ _ inb j 0
  have e1 : (((Rect.unit (s := S256x52) ![32 * k, 0] S32x52.size inb).emb j) 1).val = 0 + (j 1).val := ValueKit.rect_emb_unit_val _ _ inb j 1
  have b0 : (j 0).val < 32 := (j 0).isLt
  have d0 : (32 * k + (j 0).val) / 32 = k := by omega
  have m0 : (32 * k + (j 0).val) % 32 = (j 0).val := by omega
  simp only [e0, e1, d0, m0]
  show f k _ = f k _
  congr 1
  funext a
  apply Fin.ext
  match a with
  | 0 => exact Nat.zero_add _
  | 1 => rfl

theorem scale_trip (x : Vec Ideal S256x3328 .bf16) (k : Fin k0_t2_loop.trips) :
    Agree (scaleOf x) (trip_k0_t2 (F := Ideal) 𝒱 c bd i arg1 harg1 arg2 harg2 arg3 harg3 arg4 harg4 arg5 harg5 arg6 harg6 arg7 harg7 arg8 harg8 (harg1.unread x) k).2.1 := by
  rw [scale_pieces, tile_eq]
  exact View.PiecesOf.mem ⟨scale_piece (fun k => compactV (tilesOf (R := 256) (C := 3328) (α := EReal) x k)) _ (k0_off54_inb k) k.val (k0_off54_eq k), trivial⟩

theorem weight_trip (h1 : k0_cond1 i = 1#1) (x1 : Vec Ideal S4992x3328 .fp8e4m3) (x2 : Vec Ideal S4992x128 .f32) (k : Fin k0_t1_loop.trips) :
    Agree (weightOf x1 x2) (trip_k0_t1 (F := Ideal) 𝒱 c bd i arg1 harg1 arg2 harg2 arg3 harg3 arg4 harg4 arg5 harg5 arg6 harg6 arg7 harg7 arg8 harg8 h1 (harg2.unread x1) (harg3.unread x2) k).1 := by
  rw [weight_pieces, wtile_eq, wscale_eq]
  refine View.PiecesOf.mem ⟨piece_tile (R := 4992) (C := 3328) (fun k v => weightV (tilesOf (R := 4992) (C := 128) (α := EReal) x2 k 0) (tilesOf (R := 4992) (C := 3328) (α := EReal) x1 k) v) _ (k0_off27_inb i k h1) k.val 25 (k0_off27_eq k), piece_tile (R := 4992) (C := 3328) (fun k v => weightV (tilesOf (R := 4992) (C := 128) (α := EReal) x2 k 0) (tilesOf (R := 4992) (C := 3328) (α := EReal) x1 k) v) _ (k0_off26_inb i k h1) k.val 24 (k0_off26_eq k), piece_tile (R := 4992) (C := 3328) (fun k v => weightV (tilesOf (R := 4992) (C := 128) (α := EReal) x2 k 0) (tilesOf (R := 4992) (C := 3328) (α := EReal) x1 k) v) _ (k0_off25_inb i k h1) k.val 23 (k0_off25_eq k), piece_tile (R := 4992) (C := 3328) (fun k v => weightV (tilesOf (R := 4992) (C := 128) (α := EReal) x2 k 0) (tilesOf (R := 4992) (C := 3328) (α := EReal) x1 k) v) _ (k0_off24_inb i k h1) k.val 22 (k0_off24_eq k), piece_tile (R := 4992) (C := 3328) (fun k v => weightV (tilesOf (R := 4992) (C := 128) (α := EReal) x2 k 0) (tilesOf (R := 4992) (C := 3328) (α := EReal) x1 k) v) _ (k0_off23_inb i k h1) k.val 21 (k0_off23_eq k), piece_tile (R := 4992) (C := 3328) (fun k v => weightV (tilesOf (R := 4992) (C := 128) (α := EReal) x2 k 0) (tilesOf (R := 4992) (C := 3328) (α := EReal) x1 k) v) _ (k0_off22_inb i k h1) k.val 20 (k0_off22_eq k), piece_tile (R := 4992) (C := 3328) (fun k v => weightV (tilesOf (R := 4992) (C := 128) (α := EReal) x2 k 0) (tilesOf (R := 4992) (C := 3328) (α := EReal) x1 k) v) _ (k0_off21_inb i k h1) k.val 19 (k0_off21_eq k), piece_tile (R := 4992) (C := 3328) (fun k v => weightV (tilesOf (R := 4992) (C := 128) (α := EReal) x2 k 0) (tilesOf (R := 4992) (C := 3328) (α := EReal) x1 k) v) _ (k0_off20_inb i k h1) k.val 18 (k0_off20_eq k), piece_tile (R := 4992) (C := 3328) (fun k v => weightV (tilesOf (R := 4992) (C := 128) (α := EReal) x2 k 0) (tilesOf (R := 4992) (C := 3328) (α := EReal) x1 k) v) _ (k0_off19_inb i k h1) k.val 17 (k0_off19_eq k), piece_tile (R := 4992) (C := 3328) (fun k v => weightV (tilesOf (R := 4992) (C := 128) (α := EReal) x2 k 0) (tilesOf (R := 4992) (C := 3328) (α := EReal) x1 k) v) _ (k0_off18_inb i k h1) k.val 16 (k0_off18_eq k), piece_tile (R := 4992) (C := 3328) (fun k v => weightV (tilesOf (R := 4992) (C := 128) (α := EReal) x2 k 0) (tilesOf (R := 4992) (C := 3328) (α := EReal) x1 k) v) _ (k0_off17_inb i k h1) k.val 15 (k0_off17_eq k), piece_tile (R := 4992) (C := 3328) (fun k v => weightV (tilesOf (R := 4992) (C := 128) (α := EReal) x2 k 0) (tilesOf (R := 4992) (C := 3328) (α := EReal) x1 k) v) _ (k0_off16_inb i k h1) k.val 14 (k0_off16_eq k), piece_tile (R := 4992) (C := 3328) (fun k v => weightV (tilesOf (R := 4992) (C := 128) (α := EReal) x2 k 0) (tilesOf (R := 4992) (C := 3328) (α := EReal) x1 k) v) _ (k0_off15_inb i k h1) k.val 13 (k0_off15_eq k), piece_tile (R := 4992) (C := 3328) (fun k v => weightV (tilesOf (R := 4992) (C := 128) (α := EReal) x2 k 0) (tilesOf (R := 4992) (C := 3328) (α := EReal) x1 k) v) _ (k0_off14_inb i k h1) k.val 12 (k0_off14_eq k), piece_tile (R := 4992) (C := 3328) (fun k v => weightV (tilesOf (R := 4992) (C := 128) (α := EReal) x2 k 0) (tilesOf (R := 4992) (C := 3328) (α := EReal) x1 k) v) _ (k0_off13_inb i k h1) k.val 11 (k0_off13_eq k), piece_tile (R := 4992) (C := 3328) (fun k v => weightV (tilesOf (R := 4992) (C := 128) (α := EReal) x2 k 0) (tilesOf (R := 4992) (C := 3328) (α := EReal) x1 k) v) _ (k0_off12_inb i k h1) k.val 10 (k0_off12_eq k), piece_tile (R := 4992) (C := 3328) (fun k v => weightV (tilesOf (R := 4992) (C := 128) (α := EReal) x2 k 0) (tilesOf (R := 4992) (C := 3328) (α := EReal) x1 k) v) _ (k0_off11_inb i k h1) k.val 9 (k0_off11_eq k), piece_tile (R := 4992) (C := 3328) (fun k v => weightV (tilesOf (R := 4992) (C := 128) (α := EReal) x2 k 0) (tilesOf (R := 4992) (C := 3328) (α := EReal) x1 k) v) _ (k0_off10_inb i k h1) k.val 8 (k0_off10_eq k), piece_tile (R := 4992) (C := 3328) (fun k v => weightV (tilesOf (R := 4992) (C := 128) (α := EReal) x2 k 0) (tilesOf (R := 4992) (C := 3328) (α := EReal) x1 k) v) _ (k0_off9_inb i k h1) k.val 7 (k0_off9_eq k), piece_tile (R := 4992) (C := 3328) (fun k v => weightV (tilesOf (R := 4992) (C := 128) (α := EReal) x2 k 0) (tilesOf (R := 4992) (C := 3328) (α := EReal) x1 k) v) _ (k0_off8_inb i k h1) k.val 6 (k0_off8_eq k), piece_tile (R := 4992) (C := 3328) (fun k v => weightV (tilesOf (R := 4992) (C := 128) (α := EReal) x2 k 0) (tilesOf (R := 4992) (C := 3328) (α := EReal) x1 k) v) _ (k0_off7_inb i k h1) k.val 5 (k0_off7_eq k), piece_tile (R := 4992) (C := 3328) (fun k v => weightV (tilesOf (R := 4992) (C := 128) (α := EReal) x2 k 0) (tilesOf (R := 4992) (C := 3328) (α := EReal) x1 k) v) _ (k0_off6_inb i k h1) k.val 4 (k0_off6_eq k), piece_tile (R := 4992) (C := 3328) (fun k v => weightV (tilesOf (R := 4992) (C := 128) (α := EReal) x2 k 0) (tilesOf (R := 4992) (C := 3328) (α := EReal) x1 k) v) _ (k0_off5_inb i k h1) k.val 3 (k0_off5_eq k), piece_tile (R := 4992) (C := 3328) (fun k v => weightV (tilesOf (R := 4992) (C := 128) (α := EReal) x2 k 0) (tilesOf (R := 4992) (C := 3328) (α := EReal) x1 k) v) _ (k0_off4_inb i k h1) k.val 2 (k0_off4_eq k), piece_tile (R := 4992) (C := 3328) (fun k v => weightV (tilesOf (R := 4992) (C := 128) (α := EReal) x2 k 0) (tilesOf (R := 4992) (C := 3328) (α := EReal) x1 k) v) _ (k0_off3_inb i k h1) k.val 1 (k0_off3_eq k), piece_tile (R := 4992) (C := 3328) (fun k v => weightV (tilesOf (R := 4992) (C := 128) (α := EReal) x2 k 0) (tilesOf (R := 4992) (C := 3328) (α := EReal) x1 k) v) _ (k0_off2_inb i k h1) k.val 0 (k0_off2_eq k), trivial⟩

theorem rows_agree (x : Vec Ideal S256x3328 .bf16) : ∀ k, k ≤ k0_t2_loop.trips →
    Agree (codesOf x) (pb_k0_t2 (F := Ideal) 𝒱 c bd i arg1 harg1 arg2 harg2 arg3 harg3 arg4 harg4 arg5 harg5 arg6 harg6 arg7 harg7 arg8 harg8 (harg1.unread x) k).1 ∧
    Agree (scaleOf x) (pb_k0_t2 (F := Ideal) 𝒱 c bd i arg1 harg1 arg2 harg2 arg3 harg3 arg4 harg4 arg5 harg5 arg6 harg6 arg7 harg7 arg8 harg8 (harg1.unread x) k).2.1 ∧
    Agree (valuesOf x) (pb_k0_t2 (F := Ideal) 𝒱 c bd i arg1 harg1 arg2 harg2 arg3 harg3 arg4 harg4 arg5 harg5 arg6 harg6 arg7 harg7 arg8 harg8 (harg1.unread x) k).2.2
  | 0, _ => ⟨Agree.nil _, Agree.nil _, Agree.nil _⟩
  | k + 1, hk => by
    have ih := rows_agree x k (Nat.le_of_succ_le hk)
    rw [show k + 1 = (⟨k, hk⟩ : Fin k0_t2_loop.trips).val + 1 from rfl, pb_k0_t2_succ]
    exact ⟨(codes_trip _ _ _ _ _ _ _ _ _ _ _ _ _ _ _ _ _ _ _ _ x _).append ih.1,
      (scale_trip _ _ _ _ _ _ _ _ _ _ _ _ _ _ _ _ _ _ _ _ x _).append ih.2.1,
      (values_trip _ _ _ _ _ _ _ _ _ _ _ _ _ _ _ _ _ _ _ _ x _).append ih.2.2⟩

theorem weights_agree (h1 : k0_cond1 i = 1#1) (x1 : Vec Ideal S4992x3328 .fp8e4m3) (x2 : Vec Ideal S4992x128 .f32) : ∀ k, k ≤ k0_t1_loop.trips →
    Agree (weightOf x1 x2) (pb_k0_t1 (F := Ideal) 𝒱 c bd i arg1 harg1 arg2 harg2 arg3 harg3 arg4 harg4 arg5 harg5 arg6 harg6 arg7 harg7 arg8 harg8 h1 (harg2.unread x1) (harg3.unread x2) k)
  | 0, _ => Agree.nil _
  | k + 1, hk => by
    have ih := weights_agree h1 x1 x2 k (Nat.le_of_succ_le hk)
    rw [show k + 1 = (⟨k, hk⟩ : Fin k0_t1_loop.trips).val + 1 from rfl, pb_k0_t1_succ]
    exact (weight_trip _ _ _ _ _ _ _ _ _ _ _ _ _ _ _ _ _ _ _ _ h1 x1 x2 _).append ih
end
end Cert.KernelIdeal.Quant

end
-- ==== Proof.AtLane.lean ====
module

public import proofs.«01_k».proof.Proof.Spec
public import proofs.«01_k».proof.Proof.Lanes
public import proofs.«01_k».proof.Proof.Rows

/-! The kernel's tile functions, read lane by lane, are the functions of `Spec`. -/

@[expose] public section

set_option maxRecDepth 16384

noncomputable section

open Idealize.ShloMosaic Idealize.ShloMosaic.TcCoe Idealize.SL.Sem
open Cert.KernelIdeal Cert.KernelIdeal.Gen

namespace Cert.KernelIdeal.Quant
open Cert.Proof.Scale Cert.Proof.Spec

theorem words_at (T : ℕ → FVec Ideal S32x128 .bf16) (r : Fin 32) (l : Fin 128) : wordsV T (P r l) = scaleWord (quotV T (P r l)) := rfl

theorem tilesOf_at {α : Type} [Zero α] {R C : ℕ} (x : (⟨2, ![R, C]⟩ : Shape).Idx → α) (k v : ℕ) (r : Fin 32) (l : Fin 128) (hk : 32 * k + 32 ≤ R) (hv : 128 * v + 128 ≤ C) :
    tilesOf x k v (P r l) = x (ix2 ⟨32 * k + r.val, by omega⟩ ⟨128 * v + l.val, by omega⟩) := by
  unfold tilesOf
  rw [dif_pos ⟨hk, hv⟩]; rfl

section
variable {R : ℕ} (x : (⟨2, ![R, 3328]⟩ : Shape).Idx → EReal) (k : ℕ) (hk : 32 * k + 32 ≤ R) (r : Fin 32)

theorem quot_at (l : Fin 128) (hl : (l.val % 64) / 2 < 26) :
    (quotV (tilesOf (α := EReal) x k) (P r l) : EReal) = quot (group x ⟨32 * k + r.val, by omega⟩ ⟨2 * ((l.val % 64) / 2) + l.val / 64, by omega⟩) := by
  show (maximaV (tilesOf (α := EReal) x k) (P r l) : EReal) * _ = (⨆ _, _) * _
  congr 1
  refine eq_of_forall_ge_iff fun b => ?_
  rw [maximaV_le (tilesOf (α := EReal) x k) r l hl b, iSup_le_iff]
  refine forall_congr' fun d => ?_
  show max (tilesOf (α := EReal) x k _ _) (-(tilesOf (α := EReal) x k _ _)) ≤ b ↔ _
  rw [tilesOf_at x k _ r _ hk (by omega)]
  have e : (⟨128 * ((l.val % 64) / 2) + (64 * (l.val / 64) + d.val), by omega⟩ : Fin 3328) = ⟨64 * (2 * ((l.val % 64) / 2) + l.val / 64) + d.val, by omega⟩ := by
    apply Fin.ext; show _ = _; dsimp only; omega
  unfold group
  dsimp only
  rw [e]

theorem scaleWord_at_lane (l : Fin 128) (g : Fin 52) (h1 : (l.val % 64) / 2 = g.val / 2) (h2 : l.val / 64 = g.val % 2) :
    wordsV (tilesOf (α := EReal) x k) (P r l) = scaleWord (quot (group x ⟨32 * k + r.val, by omega⟩ g)) := by
  rw [words_at]
  refine congrArg scaleWord ((quot_at x k hk r l (by omega)).trans ?_)
  have : (⟨2 * ((l.val % 64) / 2) + l.val / 64, by omega⟩ : Fin 52) = g := by apply Fin.ext; dsimp only; omega
  rw [this]

theorem compact_lane : ∀ j : Fin 52, ((at128 (((BitVec.ofNat 32 j.val &&& 1#32) <<< (6#32 : BitVec 32)) + (BitVec.ofNat 32 j.val &&& 62#32))).val % 64) / 2 = j.val / 2
    ∧ (at128 (((BitVec.ofNat 32 j.val &&& 1#32) <<< (6#32 : BitVec 32)) + (BitVec.ofNat 32 j.val &&& 62#32))).val / 64 = j.val % 2 := by decide +kernel

theorem compact_at (j : Fin 52) : (compactV (tilesOf (α := EReal) x k) (P r ⟨j.val, by omega⟩) : EReal) = scale (group x ⟨32 * k + r.val, by omega⟩ j) := by
  show Ideal.ofBits .f32 (gatherV (wordsV (tilesOf (α := EReal) x k)) _ (P r ⟨j.val, by omega⟩)) = Ideal.ofBits .f32 _
  rw [gatherV_at]
  refine congrArg (Ideal.ofBits .f32) (scaleWord_at_lane x k hk r _ j ?_ ?_)
  · refine Eq.trans ?_ (compact_lane j).1
    congr 3
    show at128 (((lanes (P r ⟨j.val, by omega⟩) &&& 1#32) <<< (6#32 : BitVec 32)) + (lanes (P r ⟨j.val, by omega⟩) &&& 62#32)) = _
    rw [lanes_at]
  · refine Eq.trans ?_ (compact_lane j).2
    congr 2
    show at128 (((lanes (P r ⟨j.val, by omega⟩) &&& 1#32) <<< (6#32 : BitVec 32)) + (lanes (P r ⟨j.val, by omega⟩) &&& 62#32)) = _
    rw [lanes_at]

theorem spread_lane : ∀ (l : Fin 128) (v : Fin 26), (at128 ((((BitVec.ofNat 32 l.val).sshiftRight 6) <<< (6#32 : BitVec 32)) + BitVec.ofNat 32 (2 * v.val))).val = 64 * (l.val / 64) + 2 * v.val := by decide +kernel

theorem tileWords_at (v : ℕ) (hv : v < 26) (l : Fin 128) :
    tileWordsV (tilesOf (α := EReal) x k) v (P r l) = scaleWord (quot (group x ⟨32 * k + r.val, by omega⟩ ⟨2 * v + l.val / 64, by omega⟩)) := by
  unfold tileWordsV
  rw [gatherV_at]
  have e : (at128 ((addi (shli (shrsi lanes (broadcast S32x128 6#32)) (broadcast S32x128 6#32)) (broadcast S32x128 (BitVec.ofNat 32 (2 * v)))) (P r l))).val = 64 * (l.val / 64) + 2 * v := by
    refine Eq.trans ?_ (spread_lane l ⟨v, hv⟩)
    congr 1
    rw [← lanes_at r l]
    rfl
  have ha : l.val / 64 = 0 ∨ l.val / 64 = 1 := by omega
  refine scaleWord_at_lane x k hk r _ ⟨2 * v + l.val / 64, by omega⟩ ?_ ?_ <;> rw [e] <;> dsimp only <;>
    rcases ha with ha | ha <;> rw [ha] <;> omega

theorem codes_open (a b : BitVec 16) (c : BitVec 32) (X : FVec Ideal S32x128 .bf16) (W : IVec S32x128 32) (i : S32x128.Idx) :
    (truncf .fp8e4m3 (minimumf (broadcast S32x128 (Scalar.ofBits .bf16 a)) (maximumf (broadcast S32x128 (Scalar.ofBits .bf16 b))
      (mulf X (truncf .bf16 (bitcastToFloat .f32 (subi (broadcast S32x128 c) W)) bitsLt_bf16_f32)))) bitsLt_fp8e4m3_bf16 i : EReal)
    = min (Ideal.ofBits .bf16 a) (max (Ideal.ofBits .bf16 b) (X i * Ideal.ofBits .f32 (c - W i))) := rfl

theorem codes_at (v : ℕ) (hv : v < 26) (l : Fin 128) :
    (codesV (tilesOf (α := EReal) x k) v (P r l) : EReal) = code (x (ix2 ⟨32 * k + r.val, by omega⟩ ⟨128 * v + l.val, by omega⟩)) (group x ⟨32 * k + r.val, by omega⟩ ⟨2 * v + l.val / 64, by omega⟩) := by
  have e : (codesV (tilesOf (α := EReal) x k) v (P r l) : EReal) = min (Ideal.ofBits .bf16 0x43E0#16) (max (Ideal.ofBits .bf16 0xC3E0#16)
      ((tilesOf (α := EReal) x k v (P r l)) * Ideal.ofBits .f32 (2130706432#32 - tileWordsV (tilesOf (α := EReal) x k) v (P r l)))) := by
    exact codes_open _ _ _ _ _ _
  rw [e, tileWords_at x k hk r v hv l, tilesOf_at x k v r l hk (by omega)]
  unfold code recip
  with_reducible rfl

theorem values_at (v : ℕ) (hv : v < 26) (l : Fin 128) :
    (valuesV (tilesOf (α := EReal) x k) v (P r l) : EReal) = code (x (ix2 ⟨32 * k + r.val, by omega⟩ ⟨128 * v + l.val, by omega⟩)) (group x ⟨32 * k + r.val, by omega⟩ ⟨2 * v + l.val / 64, by omega⟩) * scale (group x ⟨32 * k + r.val, by omega⟩ ⟨2 * v + l.val / 64, by omega⟩) := by
  unfold valuesV
  rw [shapeCast_self]
  show (codesV (tilesOf (α := EReal) x k) v (P r l) : EReal) * Ideal.ofBits .f32 (tileWordsV (tilesOf (α := EReal) x k) v (P r l)) = _
  rw [tileWords_at x k hk r v hv l, codes_at x k hk r v hv l]
  unfold scale
  with_reducible rfl
end

theorem row_parts (n : ℕ) : 32 * (n / 32) + n % 32 = n := Nat.div_add_mod n 32

theorem ix2_parts {R C : ℕ} (y : (⟨2, ![R, C]⟩ : Shape).Idx) (h0) (h1) :
    (ix2 ⟨32 * ((y 0).val / 32) + (y 0).val % 32, h0⟩ ⟨128 * ((y 1).val / 128) + (y 1).val % 128, h1⟩ : (⟨2, ![R, C]⟩ : Shape).Idx) = y := by
  funext a
  match a with
  | ⟨0, _⟩ => exact Fin.ext (Nat.div_add_mod _ 32)
  | ⟨1, _⟩ => exact Fin.ext (Nat.div_add_mod _ 128)

theorem group_parts {R : ℕ} (x : (⟨2, ![R, 3328]⟩ : Shape).Idx → EReal) (y : (⟨2, ![R, 3328]⟩ : Shape).Idx) (h0) (h1) :
    group x ⟨32 * ((y 0).val / 32) + (y 0).val % 32, h0⟩ ⟨2 * ((y 1).val / 128) + (y 1).val % 128 / 64, h1⟩ = groupAt x y := by
  unfold groupAt
  congr 1
  · exact Fin.ext (Nat.div_add_mod _ 32)
  · apply Fin.ext; dsimp only; omega

theorem codesOf_eq (x : Vec Ideal S256x3328 .bf16) : codesOf x = codes (R := 256) x := by
  funext y
  have h0 : (y 0).val < 256 := (y 0).isLt
  have h1 : (y 1).val < 3328 := (y 1).isLt
  refine (codes_at (R := 256) x ((y 0).val / 32) (by omega) ⟨(y 0).val % 32, by omega⟩ ((y 1).val / 128) (by omega) ⟨(y 1).val % 128, by omega⟩).trans ?_
  unfold codes
  rw [← group_parts (R := 256) x y (by omega) (by omega)]
  exact congrArg (fun a => code (x a) _) (ix2_parts y (by omega) (by omega))

theorem valuesOf_eq (x : Vec Ideal S256x3328 .bf16) : valuesOf x = values (R := 256) x := by
  funext y
  have h0 : (y 0).val < 256 := (y 0).isLt
  have h1 : (y 1).val < 3328 := (y 1).isLt
  refine (values_at (R := 256) x ((y 0).val / 32) (by omega) ⟨(y 0).val % 32, by omega⟩ ((y 1).val / 128) (by omega) ⟨(y 1).val % 128, by omega⟩).trans ?_
  unfold values codes
  rw [← group_parts (R := 256) x y (by omega) (by omega)]
  exact congrArg (fun a => code (x a) _ * _) (ix2_parts y (by omega) (by omega))

theorem scaleOf_eq (x : Vec Ideal S256x3328 .bf16) : scaleOf x = scales (R := 256) x := by
  funext y
  have h0 : (y 0).val < 256 := (y 0).isLt
  have h1 : (y 1).val < 52 := (y 1).isLt
  refine (compact_at (R := 256) x ((y 0).val / 32) (by omega) ⟨(y 0).val % 32, by omega⟩ ⟨(y 1).val, h1⟩).trans ?_
  unfold scales
  exact congrArg (fun a => scale (group (R := 256) x a (y 1))) (Fin.ext (Nat.div_add_mod _ 32))

theorem weight_lane : ∀ (l : Fin 128) (v : Fin 26), (at128 (((BitVec.ofNat 32 l.val).sshiftRight 6) + BitVec.ofNat 32 (2 * v.val))).val = 2 * v.val + l.val / 64 := by decide +kernel

theorem weightOf_at (x1 : Vec Ideal S4992x3328 .fp8e4m3) (x2 : Vec Ideal S4992x128 .f32) (y : S4992x3328.Idx) :
    (weightOf x1 x2 y : EReal) = (x1 y : EReal) * (x2 (ix2 (n0 := 4992) (n1 := 128) (y 0) ⟨(y 1).val / 64, by have : (y 1).val < 3328 := (y 1).isLt; omega⟩) : EReal) := by
  have h0 : (y 0).val < 4992 := (y 0).isLt
  have h1 : (y 1).val < 3328 := (y 1).isLt
  have hl := weight_lane ⟨(y 1).val % 128, by omega⟩ ⟨(y 1).val / 128, by omega⟩
  unfold weightOf ofTiles weightV
  dsimp only
  rw [shapeCast_self]
  show (tilesOf (R := 4992) (C := 3328) (α := EReal) x1 _ _ (P ⟨(y 0).val % 32, by omega⟩ ⟨(y 1).val % 128, by omega⟩)) * (gatherV (tilesOf (R := 4992) (C := 128) (α := EReal) x2 _ 0) _ (P ⟨(y 0).val % 32, by omega⟩ ⟨(y 1).val % 128, by omega⟩)) = _
  rw [gatherV_at, tilesOf_at x1 _ _ _ _ (by omega) (by omega), tilesOf_at x2 _ _ _ _ (by omega) (by omega)]
  congr 1
  · exact congrArg x1 (ix2_parts y (by omega) (by omega))
  · refine congrArg x2 ?_
    congr 1
    · exact Fin.ext (Nat.div_add_mod _ 32)
    · apply Fin.ext
      dsimp only
      rw [Nat.mul_zero, Nat.zero_add]
      refine Eq.trans ?_ (hl.trans ?_)
      · congr 2
        show (lanes (P ⟨(y 0).val % 32, by omega⟩ ⟨(y 1).val % 128, by omega⟩)).sshiftRight 6 + _ = _
        rw [lanes_at]
        rfl
      · dsimp only; omega
end Cert.KernelIdeal.Quant

end
-- ==== Proof.Point.lean ====
module

public import proofs.«01_k».proof.Proof.Gen.KernelIdeal.Loops
public import proofs.«01_k».proof.Proof.Rows
public import proofs.«01_k».proof.Proof.Gen.KernelIdeal.Frame
public import Idealize.ShloMosaic.Lib.Pipeline.ValueKit

/-! One grid point: the four buffers it leaves (product, codes, scales, and the dequantised weights it
    carries) as functions of the blocks it is given. -/

@[expose] public section

set_option maxRecDepth 16384

noncomputable section

open Idealize.ShloMosaic Idealize.ShloMosaic.TcCoe Idealize.SL.Sem
open Cert.KernelIdeal Cert.KernelIdeal.Gen

namespace Cert.KernelIdeal.Quant

/-- the product -/
def prodOf (X : Vec Ideal S256x3328 .bf16) (W : Vec Ideal S4992x3328 .bf16) : Vec Ideal S256x4992 .bf16 := fun y =>
  ((∑ k : Fin 3328, (X (ix2 (n0 := 256) (n1 := 3328) (y 0) k) : EReal) * (W (ix2 (n0 := 4992) (n1 := 3328) (y 1) k) : EReal) : EReal))

theorem zero_word : Ideal.ofBits .f32 0x00000000#32 = 0 := by pointwise

theorem matmul_1024 (X : Vec Ideal S256x3328 .bf16) (W : Vec Ideal S1024x3328 .bf16) (j : S256x1024.Idx) :
    k0_pay259 (F := Ideal) X W j = (∑ k : Fin 3328, (X (ix2 (n0 := 256) (n1 := 3328) (j 0) k) : EReal) * (W (ix2 (n0 := 1024) (n1 := 3328) (j 1) k) : EReal) : EReal) := by
  pointwise [k0_pay259]

theorem matmul_896 (X : Vec Ideal S256x3328 .bf16) (W : Vec Ideal S896x3328 .bf16) (j : S256x896.Idx) :
    k0_pay2 (F := Ideal) X W j = (∑ k : Fin 3328, (X (ix2 (n0 := 256) (n1 := 3328) (j 0) k) : EReal) * (W (ix2 (n0 := 896) (n1 := 3328) (j 1) k) : EReal) : EReal) := by
  pointwise [k0_pay2]

theorem piece_1024 (X : Vec Ideal S256x3328 .bf16) (W : Vec Ideal S4992x3328 .bf16) (o : ℕ) (inb) (inb')
    (j : (Rect.unit (s := S256x4992) ![0, o] S256x1024.size inb).shape.Idx) :
    k0_pay259 (F := Ideal) X (View.ld W (Rect.unit (s := S4992x3328) ![o, 0] S1024x3328.size inb')) j = prodOf X W ((Rect.unit (s := S256x4992) ![0, o] S256x1024.size inb).emb j) := by
  rw [matmul_1024]
  have e0 : (((Rect.unit (s := S256x4992) ![0, o] S256x1024.size inb).emb j) 0).val = 0 + (j 0).val := ValueKit.rect_emb_unit_val _ _ inb j 0
  have e1 : (((Rect.unit (s := S256x4992) ![0, o] S256x1024.size inb).emb j) 1).val = o + (j 1).val := ValueKit.rect_emb_unit_val _ _ inb j 1
  unfold prodOf
  refine Finset.sum_congr rfl fun k _ => ?_
  congr 1
  · congr 1
    funext a
    apply Fin.ext
    match a with
    | 0 => exact (e0.trans (Nat.zero_add _)).symm
    | 1 => rfl
  · refine congrArg W ?_
    funext a
    apply Fin.ext
    match a with
    | 0 => exact (ValueKit.rect_emb_unit_val (s := S4992x3328) ![o, 0] S1024x3328.size inb' (ix2 (n0 := 1024) (n1 := 3328) (j 1) k) 0).trans e1.symm
    | 1 => exact (ValueKit.rect_emb_unit_val (s := S4992x3328) ![o, 0] S1024x3328.size inb' (ix2 (n0 := 1024) (n1 := 3328) (j 1) k) 1).trans (Nat.zero_add _)

theorem piece_896 (X : Vec Ideal S256x3328 .bf16) (W : Vec Ideal S4992x3328 .bf16) (o : ℕ) (inb) (inb')
    (j : (Rect.unit (s := S256x4992) ![0, o] S256x896.size inb).shape.Idx) :
    k0_pay2 (F := Ideal) X (View.ld W (Rect.unit (s := S4992x3328) ![o, 0] S896x3328.size inb')) j = prodOf X W ((Rect.unit (s := S256x4992) ![0, o] S256x896.size inb).emb j) := by
  rw [matmul_896]
  have e0 : (((Rect.unit (s := S256x4992) ![0, o] S256x896.size inb).emb j) 0).val = 0 + (j 0).val := ValueKit.rect_emb_unit_val _ _ inb j 0
  have e1 : (((Rect.unit (s := S256x4992) ![0, o] S256x896.size inb).emb j) 1).val = o + (j 1).val := ValueKit.rect_emb_unit_val _ _ inb j 1
  unfold prodOf
  refine Finset.sum_congr rfl fun k _ => ?_
  congr 1
  · congr 1
    funext a
    apply Fin.ext
    match a with
    | 0 => exact (e0.trans (Nat.zero_add _)).symm
    | 1 => rfl
  · refine congrArg W ?_
    funext a
    apply Fin.ext
    match a with
    | 0 => exact (ValueKit.rect_emb_unit_val (s := S4992x3328) ![o, 0] S896x3328.size inb' (ix2 (n0 := 896) (n1 := 3328) (j 1) k) 0).trans e1.symm
    | 1 => exact (ValueKit.rect_emb_unit_val (s := S4992x3328) ![o, 0] S896x3328.size inb' (ix2 (n0 := 896) (n1 := 3328) (j 1) k) 1).trans (Nat.zero_add _)

section
variable (c : Dev nD) (i : grid0.Coords) (arg1 : Memref sig .tc .vmem S256x3328 .bf16) (harg1 : arg1.IsWhole) (arg2 : Memref sig .tc .vmem S4992x3328 .fp8e4m3) (harg2 : arg2.IsWhole) (arg3 : Memref sig .tc .vmem S4992x128 .f32) (harg3 : arg3.IsWhole) (arg4 : Memref sig .tc .vmem S256x4992 .bf16) (harg4 : arg4.IsWhole) (arg5 : Memref sig .tc .vmem S256x3328 .fp8e4m3) (harg5 : arg5.IsWhole) (arg6 : Memref sig .tc .vmem S256x52 .f32) (harg6 : arg6.IsWhole) (arg7 : Memref sig .tc .vmem S4992x3328 .bf16) (harg7 : arg7.IsWhole) (arg8 : Memref sig .tc .vmem S256x3328 .bf16) (harg8 : arg8.IsWhole)

theorem values_read (x : Vec Ideal S256x3328 .bf16) :
    arg8.view.readCov (pb_k0_t2 (F := Ideal) Variants.none c none i arg1 harg1 arg2 harg2 arg3 harg3 arg4 harg4 arg5 harg5 arg6 harg6 arg7 harg7 arg8 harg8 (harg1.unread x) (Scf.trips k0_t2_loop.lb k0_t2_loop.ub k0_t2_loop.st)).2.2
      (Rect.unit (s := S256x3328) ![0, 0] S256x3328.size inb_S256x3328_S256x3328_0_0).toLoadRect = valuesOf x := by
  have hc := View.cover_of_tiledL (pb_k0_t2 (F := Ideal) Variants.none c none i arg1 harg1 arg2 harg2 arg3 harg3 arg4 harg4 arg5 harg5 arg6 harg6 arg7 harg7 arg8 harg8 (harg1.unread x) (Scf.trips k0_t2_loop.lb k0_t2_loop.ub k0_t2_loop.st)).2.2 S32x128.size (by sl_kernel_rfl)
  rw [View.readCov_eq_canon_ld _ _ _ hc, (rows_agree _ _ _ _ _ _ _ _ _ _ _ _ _ _ _ _ _ _ _ _ x _ le_rfl).2.2.canon hc]
  exact View.ld_unit_zero (by decide) _ _

theorem weights_read (h1 : k0_cond1 i = 1#1) (x1 : Vec Ideal S4992x3328 .fp8e4m3) (x2 : Vec Ideal S4992x128 .f32) (r : Rect S4992x3328) :
    arg7.view.readCov (pb_k0_t1 (F := Ideal) Variants.none c none i arg1 harg1 arg2 harg2 arg3 harg3 arg4 harg4 arg5 harg5 arg6 harg6 arg7 harg7 arg8 harg8 h1 (harg2.unread x1) (harg3.unread x2) (Scf.trips k0_t1_loop.lb k0_t1_loop.ub k0_t1_loop.st))
      r.toLoadRect = View.ld (weightOf x1 x2) r := by
  have hc := View.cover_of_tiledL (pb_k0_t1 (F := Ideal) Variants.none c none i arg1 harg1 arg2 harg2 arg3 harg3 arg4 harg4 arg5 harg5 arg6 harg6 arg7 harg7 arg8 harg8 h1 (harg2.unread x1) (harg3.unread x2) (Scf.trips k0_t1_loop.lb k0_t1_loop.ub k0_t1_loop.st)) S32x128.size (by sl_kernel_rfl)
  rw [View.readCov_eq_canon_ld _ _ _ hc, (weights_agree _ _ _ _ _ _ _ _ _ _ _ _ _ _ _ _ _ _ _ _ h1 x1 x2 _ le_rfl).canon hc]

variable (x0 : Vec Ideal S256x3328 .bf16) (x1 : Vec Ideal S4992x3328 .fp8e4m3) (x2 : Vec Ideal S4992x128 .f32) (xs0 : Vec Ideal S4992x3328 .bf16)

theorem codes_A (hc0 : cond0_0 i) : out0_A_4 (F := Ideal) c i arg1 harg1 arg2 harg2 arg3 harg3 arg4 harg4 arg5 harg5 arg6 harg6 arg7 harg7 arg8 harg8 hc0 x0 x1 x2 = codesOf x0 := by
  frame_out
  exact (rows_agree _ _ _ _ _ _ _ _ _ _ _ _ _ _ _ _ _ _ _ _ x0 _ le_rfl).1.canon (cover0_A_4 (F := Ideal) c i arg1 harg1 arg2 harg2 arg3 harg3 arg4 harg4 arg5 harg5 arg6 harg6 arg7 harg7 arg8 harg8 hc0 x0 x1 x2)

theorem codes_B (hc0 : ¬cond0_0 i) : out0_B_4 (F := Ideal) c i arg1 harg1 arg2 harg2 arg3 harg3 arg4 harg4 arg5 harg5 arg6 harg6 arg7 harg7 arg8 harg8 hc0 x0 x1 x2 xs0 = codesOf x0 := by
  frame_out
  exact (rows_agree _ _ _ _ _ _ _ _ _ _ _ _ _ _ _ _ _ _ _ _ x0 _ le_rfl).1.canon (cover0_B_4 (F := Ideal) c i arg1 harg1 arg2 harg2 arg3 harg3 arg4 harg4 arg5 harg5 arg6 harg6 arg7 harg7 arg8 harg8 hc0 x0 x1 x2 xs0)

theorem scale_A (hc0 : cond0_0 i) : out0_A_5 (F := Ideal) c i arg1 harg1 arg2 harg2 arg3 harg3 arg4 harg4 arg5 harg5 arg6 harg6 arg7 harg7 arg8 harg8 hc0 x0 x1 x2 = scaleOf x0 := by
  frame_out
  exact (rows_agree _ _ _ _ _ _ _ _ _ _ _ _ _ _ _ _ _ _ _ _ x0 _ le_rfl).2.1.canon (cover0_A_5 (F := Ideal) c i arg1 harg1 arg2 harg2 arg3 harg3 arg4 harg4 arg5 harg5 arg6 harg6 arg7 harg7 arg8 harg8 hc0 x0 x1 x2)

theorem scale_B (hc0 : ¬cond0_0 i) : out0_B_5 (F := Ideal) c i arg1 harg1 arg2 harg2 arg3 harg3 arg4 harg4 arg5 harg5 arg6 harg6 arg7 harg7 arg8 harg8 hc0 x0 x1 x2 xs0 = scaleOf x0 := by
  frame_out
  exact (rows_agree _ _ _ _ _ _ _ _ _ _ _ _ _ _ _ _ _ _ _ _ x0 _ le_rfl).2.1.canon (cover0_B_5 (F := Ideal) c i arg1 harg1 arg2 harg2 arg3 harg3 arg4 harg4 arg5 harg5 arg6 harg6 arg7 harg7 arg8 harg8 hc0 x0 x1 x2 xs0)

theorem weights_A (hc0 : cond0_0 i) : sout0_A_0 (F := Ideal) c i arg1 harg1 arg2 harg2 arg3 harg3 arg4 harg4 arg5 harg5 arg6 harg6 arg7 harg7 arg8 harg8 hc0 x0 x1 x2 = weightOf x1 x2 := by
  frame_out
  exact (weights_agree _ _ _ _ _ _ _ _ _ _ _ _ _ _ _ _ _ _ _ _ hc0 x1 x2 _ le_rfl).canon (scover0_A_0 (F := Ideal) c i arg1 harg1 arg2 harg2 arg3 harg3 arg4 harg4 arg5 harg5 arg6 harg6 arg7 harg7 arg8 harg8 hc0 x0 x1 x2)

theorem product_A (hc0 : cond0_0 i) : out0_A_3 (F := Ideal) c i arg1 harg1 arg2 harg2 arg3 harg3 arg4 harg4 arg5 harg5 arg6 harg6 arg7 harg7 arg8 harg8 hc0 x0 x1 x2 = prodOf (valuesOf x0) (weightOf x1 x2) := by
  frame_out
  refine Agree.canon (View.PiecesOf.mem ⟨?_, ?_, ?_, ?_, ?_, trivial⟩) (View.cover_of_tiledBy _ ![256, 128] (by sl_kernel_rfl)) <;> intro j
  · rw [values_read, weights_read]; exact piece_896 _ _ _ inb_S256x4992_S256x896_0_4096 inb_S4992x3328_S896x3328_4096_0 j
  · rw [values_read, weights_read]; exact piece_1024 _ _ _ inb_S256x4992_S256x1024_0_3072 inb_S4992x3328_S1024x3328_3072_0 j
  · rw [values_read, weights_read]; exact piece_1024 _ _ _ inb_S256x4992_S256x1024_0_2048 inb_S4992x3328_S1024x3328_2048_0 j
  · rw [values_read, weights_read]; exact piece_1024 _ _ _ inb_S256x4992_S256x1024_0_1024 inb_S4992x3328_S1024x3328_1024_0 j
  · rw [values_read, weights_read]; exact piece_1024 _ _ _ inb_S256x4992_S256x1024_0_0 inb_S4992x3328_S1024x3328_0_0 j

theorem product_B (hc0 : ¬cond0_0 i) : out0_B_3 (F := Ideal) c i arg1 harg1 arg2 harg2 arg3 harg3 arg4 harg4 arg5 harg5 arg6 harg6 arg7 harg7 arg8 harg8 hc0 x0 x1 x2 xs0 = prodOf (valuesOf x0) xs0 := by
  frame_out
  refine Agree.canon (View.PiecesOf.mem ⟨?_, ?_, ?_, ?_, ?_, trivial⟩) (View.cover_of_tiledBy _ ![256, 128] (by sl_kernel_rfl)) <;> intro j
  · rw [values_read]; exact piece_896 _ _ _ inb_S256x4992_S256x896_0_4096 inb_S4992x3328_S896x3328_4096_0 j
  · rw [values_read]; exact piece_1024 _ _ _ inb_S256x4992_S256x1024_0_3072 inb_S4992x3328_S1024x3328_3072_0 j
  · rw [values_read]; exact piece_1024 _ _ _ inb_S256x4992_S256x1024_0_2048 inb_S4992x3328_S1024x3328_2048_0 j
  · rw [values_read]; exact piece_1024 _ _ _ inb_S256x4992_S256x1024_0_1024 inb_S4992x3328_S1024x3328_1024_0 j
  · rw [values_read]; exact piece_1024 _ _ _ inb_S256x4992_S256x1024_0_0 inb_S4992x3328_S1024x3328_0_0 j
end
end Cert.KernelIdeal.Quant

end
-- ==== Proof.KernelValue.lean ====
module

public import proofs.«01_k».proof.Proof.AtLane
public import proofs.«01_k».proof.Proof.Point
public import proofs.«01_k».proof.Proof.Gen.KernelIdeal.Value
public import Idealize.ShloMosaic.Lib.Pointwise

/-! The kernel's three result arrays after the last grid point. -/

@[expose] public section

set_option maxRecDepth 16384

noncomputable section

open Idealize.ShloMosaic Idealize.ShloMosaic.TcCoe Idealize.SL.Sem
open Cert.KernelIdeal Cert.KernelIdeal.Gen

namespace Cert.KernelIdeal.Quant
open Cert.Proof.Spec

variable (m : (ℓ : Loc nD τ sig) → Buf (Elt Ideal) ℓ) (c : Dev nD)

/-- the rows of `x`, as the kernel reads them -/
def rowsK : S24576x3328.Idx → EReal := V m c main_v1
/-- the codes of the weights -/
def wcodesK : Vec Ideal S4992x3328 .fp8e4m3 := V m c main_arg1
/-- the padded scales of the weights -/
def wscalesK : Vec Ideal S4992x128 .f32 := V m c main_v0

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = t.val ∧ win0_3.index t (1 : Fin 2) = 0 := (by decide +kernel : ∀ t : Fin grid0.N, _)
theorem index4 : ∀ t : Fin cfg0.N, win0_4.index t (0 : Fin 2) = t.val ∧ win0_4.index t (1 : Fin 2) = 0 := (by decide +kernel : ∀ t : Fin grid0.N, _)
theorem index5 : ∀ t : Fin cfg0.N, win0_5.index t (0 : Fin 2) = t.val ∧ win0_5.index t (1 : Fin 2) = 0 := (by decide +kernel : ∀ t : Fin grid0.N, _)

/-- block `t` of the rows -/
theorem blk0_val (t : Fin cfg0.N) (y : S256x3328.Idx) :
    ((((cfg0.win 0).blk t).view.emb y) 0).val = 256 * t.val + (y 0).val ∧ ((((cfg0.win 0).blk t).view.emb y) 1).val = (y 1).val := by
  obtain ⟨e0, e1⟩ := index0 t
  constructor
  · blk_simp [e0, e1]; try omega
  · blk_simp [e0, e1]; try omega

theorem iblk1_eq (t : Fin cfg0.N) : (iblk m c 1 t : S4992x3328.Idx → EReal) = wcodesK m c := by
  obtain ⟨e0, e1⟩ := index1 t
  funext y
  show V m c main_arg1 (((cfg0.win 1).blk t).view.emb y) = V m c main_arg1 y
  congr 1
  funext a
  match a with
  | ⟨0, _⟩ => apply Fin.ext; show ((((cfg0.win 1).blk t).view.emb y) 0).val = _; blk_simp [e0, e1]; try rfl
  | ⟨1, _⟩ => apply Fin.ext; show ((((cfg0.win 1).blk t).view.emb y) 1).val = _; blk_simp [e0, e1]; try rfl

theorem iblk2_eq (t : Fin cfg0.N) : (iblk m c 2 t : S4992x128.Idx → EReal) = wscalesK m c := by
  obtain ⟨e0, e1⟩ := index2 t
  funext y
  show V m c main_v0 (((cfg0.win 2).blk t).view.emb y) = V m c main_v0 y
  congr 1
  funext a
  match a with
  | ⟨0, _⟩ => apply Fin.ext; show ((((cfg0.win 2).blk t).view.emb y) 0).val = _; blk_simp [e0, e1]; try rfl
  | ⟨1, _⟩ => apply Fin.ext; show ((((cfg0.win 2).blk t).view.emb y) 1).val = _; blk_simp [e0, e1]; try rfl

theorem scratch_eq : ∀ (n : ℕ) (hn : n < cfg0.N), (outsAt0 m c n hn).2.2.2 = weightOf (wcodesK m c) (wscalesK m c) := by
  intro n
  induction n with
  | zero =>
    intro hn
    rw [outsAt0_A m c ⟨0, hn⟩ rfl]
    dsimp only
    rw [weights_A, ← iblk1_eq m c ⟨0, hn⟩, ← iblk2_eq m c ⟨0, hn⟩]
  | succ n ih =>
    intro hn
    have hN := lt_of_lt_of_eq hn (show cfg0.N = 96 from N_0)
    rw [outsAt0_B m c ⟨n + 1, hn⟩ (by dsimp only; omega)]
    dsimp only
    exact ih _

theorem point_eq (t : Fin cfg0.N) :
    (outsAt0 m c t.val t.isLt).1 = prodOf (valuesOf (iblk m c 0 t)) (weightOf (wcodesK m c) (wscalesK m c))
    ∧ (outsAt0 m c t.val t.isLt).2.1 = codesOf (iblk m c 0 t) ∧ (outsAt0 m c t.val t.isLt).2.2.1 = scaleOf (iblk m c 0 t) := by
  by_cases h0 : t.val % 96 = 0
  · rw [outsAt0_A m c t h0]
    dsimp only
    rw [product_A, codes_A, scale_A]
    refine ⟨?_, rfl, rfl⟩
    rw [← iblk1_eq m c t, ← iblk2_eq m c t]
  · rw [outsAt0_B m c t h0]
    dsimp only
    rw [product_B, codes_B, scale_B, scratch_eq]
    exact ⟨rfl, rfl, rfl⟩

theorem group_blk (t : Fin cfg0.N) (r : Fin 256) (R : Fin 24576) (hR : R.val = 256 * t.val + r.val) (g : Fin 52) :
    group (R := 256) (iblk m c 0 t : S256x3328.Idx → EReal) r g = group (R := 24576) (rowsK m c) R g := by
  funext d
  unfold group
  show V m c main_v1 (((cfg0.win 0).blk t).view.emb _) = V m c main_v1 _
  congr 1
  have h := blk0_val t (ix2 r ⟨64 * g.val + d.val, by omega⟩)
  funext a
  match a with
  | ⟨0, _⟩ => exact Fin.ext (h.1.trans hR.symm)
  | ⟨1, _⟩ => exact Fin.ext h.2

theorem at_blk (t : Fin cfg0.N) (r : Fin 256) (R : Fin 24576) (hR : R.val = 256 * t.val + r.val) (g : Fin 3328) :
    (iblk m c 0 t : S256x3328.Idx → EReal) (ix2 r g) = rowsK m c (ix2 R g) := by
  show V m c main_v1 (((cfg0.win 0).blk t).view.emb _) = V m c main_v1 _
  congr 1
  have h := blk0_val t (ix2 r g)
  funext a
  match a with
  | ⟨0, _⟩ => exact Fin.ext (h.1.trans hR.symm)
  | ⟨1, _⟩ => exact Fin.ext h.2

theorem codes_blk (t : Fin cfg0.N) (r : Fin 256) (R : Fin 24576) (hR : R.val = 256 * t.val + r.val) (g : Fin 3328) :
    codes (R := 256) (iblk m c 0 t : S256x3328.Idx → EReal) (ix2 r g) = codes (R := 24576) (rowsK m c) (ix2 R g) := by
  unfold codes groupAt
  rw [at_blk m c t r R hR g]
  exact congrArg (code _) (group_blk m c t r R hR _)

theorem values_blk (t : Fin cfg0.N) (r : Fin 256) (R : Fin 24576) (hR : R.val = 256 * t.val + r.val) (g : Fin 3328) :
    values (R := 256) (iblk m c 0 t : S256x3328.Idx → EReal) (ix2 r g) = values (R := 24576) (rowsK m c) (ix2 R g) := by
  unfold values groupAt
  exact congrArg₂ (fun a b : EReal => a * b) (codes_blk m c t r R hR g) (congrArg scale (group_blk m c t r R hR _))

theorem product_blk (t : Fin cfg0.N) (r : Fin 256) (R : Fin 24576) (hR : R.val = 256 * t.val + r.val) (j : Fin 4992) (W : Vec Ideal S4992x3328 .bf16) :
    (prodOf (valuesOf (iblk m c 0 t)) W (ix2 r j) : EReal) = ∑ k : Fin 3328, values (R := 24576) (rowsK m c) (ix2 R k) * (W (ix2 j k) : EReal) := by
  have e := valuesOf_eq (iblk m c 0 t)
  rw [e]
  unfold prodOf
  exact Finset.sum_congr rfl fun k _ => congrArg (fun a : EReal => a * (W (ix2 j k) : EReal)) (values_blk m c t r R hR k)

/-- the codes the kernel leaves -/
theorem codes_final : (dats m 0 c).arrAt 4 cfg0.N = codes (R := 24576) (rowsK m c) := by
  refine (dats m 0 c).arrAt_eq_of_covers 4 _ (by decide +kernel) fun t hf y => ?_
  obtain ⟨e0, e1⟩ := index4 t
  have h0 : ((((cfg0.win 4).blk t).view.emb y) 0).val = 256 * t.val + (y 0).val := by blk_simp [e0, e1]; try omega
  have h1 : ((((cfg0.win 4).blk t).view.emb y) 1).val = (y 1).val := by blk_simp [e0, e1]; try omega
  generalize ((cfg0.win 4).blk t).view.emb y = z at h0 h1
  blk_simp
  rw [after0_4, (point_eq m c t).2.1, codesOf_eq]
  have := codes_blk m c t (y 0) (z 0) h0 (y 1)
  have ey : (ix2 (y 0) (y 1) : S256x3328.Idx) = y := by funext a; match a with | ⟨0, _⟩ => rfl | ⟨1, _⟩ => rfl
  have ez : (ix2 (z 0) (y 1) : S24576x3328.Idx) = z := by funext a; match a with | ⟨0, _⟩ => rfl | ⟨1, _⟩ => exact Fin.ext h1.symm
  rw [ey, ez] at this
  exact this

theorem scales_final : (dats m 0 c).arrAt 5 cfg0.N = scales (R := 24576) (rowsK m c) := by
  refine (dats m 0 c).arrAt_eq_of_covers 5 _ (by decide +kernel) fun t hf y => ?_
  obtain ⟨e0, e1⟩ := index5 t
  have h0 : ((((cfg0.win 5).blk t).view.emb y) 0).val = 256 * t.val + (y 0).val := by blk_simp [e0, e1]; try omega
  have h1 : ((((cfg0.win 5).blk t).view.emb y) 1).val = (y 1).val := by blk_simp [e0, e1]; try omega
  generalize ((cfg0.win 5).blk t).view.emb y = z at h0 h1
  blk_simp
  rw [after0_5, (point_eq m c t).2.2, scaleOf_eq]
  unfold scales
  refine (congrArg scale (group_blk m c t (y 0) (z 0) h0 (y 1))).trans ?_
  exact congrArg (fun g => scale (group (R := 24576) (rowsK m c) (z 0) g)) (Fin.ext h1.symm)

theorem product_final : (dats m 0 c).arrAt 3 cfg0.N =
    fun z : S24576x4992.Idx => ∑ k : Fin 3328, values (R := 24576) (rowsK m c) (ix2 (z 0) k) * (weightOf (wcodesK m c) (wscalesK m c) (ix2 (z 1) k) : EReal) := by
  refine (dats m 0 c).arrAt_eq_of_covers 3 _ (by decide +kernel) fun t hf y => ?_
  obtain ⟨e0, e1⟩ := index3 t
  have h0 : ((((cfg0.win 3).blk t).view.emb y) 0).val = 256 * t.val + (y 0).val := by blk_simp [e0, e1]; try omega
  have h1 : ((((cfg0.win 3).blk t).view.emb y) 1).val = (y 1).val := by blk_simp [e0, e1]; try omega
  generalize ((cfg0.win 3).blk t).view.emb y = z at h0 h1
  blk_simp
  rw [after0_3, (point_eq m c t).1]
  have := product_blk m c t (y 0) (z 0) h0 (y 1) (weightOf (wcodesK m c) (wscalesK m c))
  have ey : (ix2 (y 0) (y 1) : S256x4992.Idx) = y := by funext a; match a with | ⟨0, _⟩ => rfl | ⟨1, _⟩ => rfl
  have e : (y 1 : Fin 4992) = z 1 := Fin.ext h1.symm
  rw [ey, e] at this
  exact this

end Cert.KernelIdeal.Quant

end
-- ==== Proof.KernelHost.lean ====
module

public import proofs.«01_k».proof.Proof.KernelValue
public import Idealize.ShloMosaic.Lib.KernelVsHost
public import Idealize.ShloMosaic.Lib.StableHlo.Run
public import Idealize.ShloMosaic.Lib.Pipeline.FrameSuffix

/-! The kernel's operands as its host code prepares them: the rows are a reshape, the weight scales are
    padded to 128 columns. -/

@[expose] public section

set_option maxRecDepth 16384

noncomputable section

open Idealize.ShloMosaic Idealize.ShloMosaic.TcCoe Idealize.SL.Sem Idealize.ShloMosaic.StableHlo
open Cert.KernelIdeal Cert.KernelIdeal.Gen

namespace Cert.KernelIdeal.Quant
open Cert.Proof.Spec

variable (m : (ℓ : Loc nD τ sig) → Buf (Elt Ideal) ℓ) (c : Dev nD)

set_option maxHeartbeats 2000000 in
theorem rowsK_eq : rowsK m c = shapeCast S24576x3328 (m ((c : Thread nD τ).loc main_arg0) : FVec Ideal S8x3072x3328 .bf16) (shapeCasts_S8x3072x3328_S24576x3328) := by
  unfold rowsK
  simp only [V, hostOps0, hostOps0_1, hostOps0_2, TRef.binary, TRef.ternary, TRef.unary, TRef.toBuf, TRef.ofBuf, cast_eq, List.flatten_cons, List.flatten_nil, List.append_nil, List.cons_append, List.nil_append]
  after_results_simp <;> rfl

theorem wcodesK_eq : wcodesK m c = m ((c : Thread nD τ).loc main_arg1) := V_main_arg1 m c

set_option maxHeartbeats 2000000 in
theorem wscalesK_eq : wscalesK m c = pad S4992x128 ![0, 0] ![0, 76] ![0, 0] (m ((c : Thread nD τ).loc main_arg2) : FVec Ideal S4992x52 .f32) (sitofp (F := Ideal) .f32 (constantI S_ 32 0#32))
    pads_S4992x52_S4992x128_000_0760 h_S_ := by
  unfold wscalesK
  simp only [V, hostOps0, hostOps0_1, hostOps0_2, TRef.binary, TRef.ternary, TRef.unary, TRef.toBuf, TRef.ofBuf, cast_eq, List.flatten_cons, List.flatten_nil, List.append_nil, List.cons_append, List.nil_append]
  after_results_simp <;> rfl

theorem wscalesK_at (r : Fin 4992) (g : Fin 52) :
    (wscalesK m c (ix2 r ⟨g.val, by omega⟩) : EReal) = (m ((c : Thread nD τ).loc main_arg2) : FVec Ideal S4992x52 .f32) (ix2 r g) := by
  rw [wscalesK_eq]
  exact pad_apply_of_inside _ _ _ _ _ _ _ _ _ (fun a => match a with
    | ⟨0, _⟩ => by show r.val = 0 + r.val * (0 + 1); omega
    | ⟨1, _⟩ => by show g.val = 0 + g.val * (0 + 1); omega)

/-- a dequantised weight is its code times the scale of its group -/
theorem weight_at (z : Fin 4992) (k : Fin 3328) (w s : EReal) (hw : (m ((c : Thread nD τ).loc main_arg1) : FVec Ideal S4992x3328 .fp8e4m3) (ix2 z k) = w)
    (hs : (m ((c : Thread nD τ).loc main_arg2) : FVec Ideal S4992x52 .f32) (ix2 z (⟨k.val / 64, by omega⟩ : Fin 52)) = s) :
    (weightOf (wcodesK m c) (wscalesK m c) (ix2 z k) : EReal) = w * s := by
  refine (weightOf_at _ _ _).trans ?_
  rw [wcodesK_eq]
  exact congrArg₂ (fun a b : EReal => a * b) hw ((wscalesK_at m c z ⟨k.val / 64, by omega⟩).trans hs)

/-- the product the kernel leaves, of the arguments -/
theorem product_result : (dats m 0 c).arrAt 3 cfg0.N =
    product (R := 24576) (rowsK m c) (m ((c : Thread nD τ).loc main_arg1)) (m ((c : Thread nD τ).loc main_arg2)) := by
  refine (product_final m c).trans (funext fun z => Finset.sum_congr rfl fun k _ => ?_)
  exact congrArg (fun a : EReal => (_ : EReal) * a) (weight_at m c (z 1) k _ _ rfl rfl)
end Cert.KernelIdeal.Quant

end
-- ==== Proof.ScaleRef.lean ====
module

public import proofs.«01_k».proof.Proof.Spec

/-! The reference's scale of a group of finite numbers is the scale word read as a float. -/

@[expose] public section

set_option maxRecDepth 16384

noncomputable section

open Idealize.ShloMosaic Idealize.ShloMosaic.TcCoe Idealize.SL.Sem

namespace Cert.Proof.Spec
open Cert.Proof.Scale

/-- the largest finite magnitude an entry may have -/
def limit : EReal := Ideal.ofBits .f32 0x7F7F0000#32

theorem limit_eq : limit = ((255 * 2 ^ (120 : ℤ) : ℝ) : EReal) := by
  unfold limit
  simp [Ideal.ofBits, Ideal.ieee, -EReal.coe_mul]
  norm_num

theorem const_eq : Ideal.ofBits .f32 0x3B124925#32 = ((9586981 * 2 ^ (-32 : ℤ) : ℝ) : EReal) := by
  simp [Ideal.ofBits, Ideal.ieee, -EReal.coe_mul]

theorem least_eq : Ideal.ofBits .f32 0x00800000#32 = (((2 : ℝ) ^ (-126 : ℤ) : ℝ) : EReal) :=
  (ofBits_word (n := 1) (by norm_num) (by norm_num)).trans (by norm_num)

theorem one_eq : Ideal.ofBits .f32 0x3F800000#32 = 1 :=
  (ofBits_word (n := 127) (by norm_num) (by norm_num)).trans (by norm_num)

theorem two_eq : Ideal.ofBits .f32 0x40000000#32 = ((2 : ℝ) : EReal) :=
  (ofBits_word (n := 128) (by norm_num) (by norm_num)).trans (by norm_num)

theorem offset_eq : Ideal.ofBits .f32 0x42FA0000#32 = ((125 : ℝ) : EReal) := by
  simp [Ideal.ofBits, Ideal.ieee, -EReal.coe_mul]
  norm_num

theorem inf_eq : Ideal.ofBits .f32 0x7F800000#32 = ⊤ := ofBits_word_top
theorem ninf_eq : Ideal.ofBits .f32 0xFF800000#32 = ⊥ := by
  simp [Ideal.ofBits, Ideal.ieee]

theorem hi_eq : Ideal.ofBits .f32 0x43E00000#32 = Ideal.ofBits .bf16 0x43E0#16 := by
  simp [Ideal.ofBits, Ideal.ieee, -EReal.coe_mul]
  norm_num
theorem lo_eq : Ideal.ofBits .f32 0xC3E00000#32 = Ideal.ofBits .bf16 0xC3E0#16 := by
  simp [Ideal.ofBits, Ideal.ieee, -EReal.coe_mul]
  norm_num

/-- candidate `i` of the reference's scales -/
def power (i : ℕ) : EReal := (((2 : ℝ) ^ ((i : ℤ) - 125) : ℝ) : EReal)

theorem pow_eq (i : ℕ) : Ideal.pow (Ideal.ofBits .f32 0x40000000#32) (((i : ℝ) : EReal) - Ideal.ofBits .f32 0x42FA0000#32) = power i := by
  rw [two_eq, offset_eq, ← EReal.coe_sub]
  show ((Real.rpow 2 ((i : ℝ) - 125) : ℝ) : EReal) = _
  unfold power
  congr 1
  have : ((i : ℝ) - 125) = (((i : ℤ) - 125 : ℤ) : ℝ) := by push_cast; ring
  rw [this]
  exact Real.rpow_intCast 2 _

/-- the reference's scale: the least candidate above `q`, or one below the least normal number -/
def refScale (q : EReal) : EReal :=
  if q < Ideal.ofBits .f32 0x00800000#32 then Ideal.ofBits .f32 0x3F800000#32 else ⨅ i : Fin 253, if q < power i.val then power i.val else ⊤

theorem refScale_coe {q : ℝ} (hq : q < 2 ^ (120 : ℤ)) : refScale (q : EReal) = Ideal.ofBits .f32 (scaleWord (q : EReal)) ∧
    Ideal.div (Ideal.ofBits .f32 0x3F800000#32) (Ideal.ofBits .f32 (scaleWord (q : EReal))) = Ideal.ofBits .f32 (2130706432#32 - scaleWord (q : EReal)) := by
  obtain ⟨k, e1, e2, h⟩ := scaleWord_at hq
  have hp : (0 : ℝ) < 2 ^ k := zpow_pos (by norm_num) k
  refine ⟨?_, ?_⟩
  · rw [e1]
    unfold refScale
    rw [least_eq, one_eq]
    rcases h with ⟨h, hk⟩ | ⟨h1, h2, h3, h4⟩
    · rw [if_pos (EReal.coe_lt_coe_iff.2 h), hk]; norm_num
    · have hn : ¬ ((q : EReal) < (((2 : ℝ) ^ (-126 : ℤ) : ℝ) : EReal)) := by
        rw [EReal.coe_lt_coe_iff, not_lt]
        exact le_trans (zpow_le_zpow_right₀ (by norm_num) (by omega)) h3
      rw [if_neg hn]
      apply le_antisymm
      · refine (iInf_le _ ⟨(k + 125).toNat, by omega⟩).trans ?_
        have e : power (k + 125).toNat = (((2 : ℝ) ^ k : ℝ) : EReal) := by
          unfold power; congr 2; omega
        dsimp only
        rw [e, if_pos (EReal.coe_lt_coe_iff.2 h4)]
      · refine le_iInf fun i => ?_
        split
        · next hi =>
          unfold power at hi ⊢
          rw [EReal.coe_lt_coe_iff] at hi
          rw [EReal.coe_le_coe_iff]
          have := (zpow_lt_zpow_iff_right₀ (by norm_num : (1 : ℝ) < 2)).1 (h3.trans_lt hi)
          exact zpow_le_zpow_right₀ (by norm_num) (by omega)
        · exact le_top
  · rw [e1, e2, one_eq]
    unfold Ideal.div
    rw [if_neg (by rw [← EReal.coe_zero, EReal.coe_eq_coe_iff]; exact hp.ne'), one_mul, ← EReal.coe_inv, zpow_neg]

theorem abs_nonneg (x : EReal) : 0 ≤ max x (-x) := by
  rcases le_total 0 x with h | h
  · exact le_max_of_le_left h
  · exact le_max_of_le_right (by simpa using EReal.neg_le_neg_iff.2 h)

/-- the quotient of a group of finite numbers is a real number below `2^120` -/
theorem quot_real (v : Fin 64 → EReal) (h : ∀ d, max (v d) (-(v d)) ≤ limit) : ∃ q : ℝ, quot v = (q : EReal) ∧ q < 2 ^ (120 : ℤ) := by
  have h0 : (0 : EReal) ≤ ⨆ d, max (v d) (-(v d)) := (abs_nonneg (v 0)).trans (le_iSup (fun d => max (v d) (-(v d))) 0)
  have h1 : (⨆ d, max (v d) (-(v d))) ≤ limit := iSup_le h
  rw [limit_eq] at h1
  unfold quot
  rw [const_eq]
  generalize (⨆ d, max (v d) (-(v d))) = M at h0 h1
  induction M with
  | bot => simp at h0
  | top => exact absurd h1 (not_le.2 (EReal.coe_lt_top _))
  | coe M =>
    rw [EReal.coe_le_coe_iff] at h1
    refine ⟨M * (9586981 * 2 ^ (-32 : ℤ)), (EReal.coe_mul _ _).symm, ?_⟩
    have : M * (9586981 * 2 ^ (-32 : ℤ)) ≤ 255 * 2 ^ (120 : ℤ) * (9586981 * 2 ^ (-32 : ℤ)) := mul_le_mul_of_nonneg_right h1 (by positivity)
    refine this.trans_lt ?_
    norm_num

theorem refScale_eq (v : Fin 64 → EReal) (h : ∀ d, max (v d) (-(v d)) ≤ limit) : refScale (quot v) = scale v ∧
    Ideal.div (Ideal.ofBits .f32 0x3F800000#32) (scale v) = recip v := by
  obtain ⟨q, e, hq⟩ := quot_real v h
  unfold scale recip
  rw [e]
  exact refScale_coe hq
end Cert.Proof.Spec

end
-- ==== Proof.Reference.lean ====
module

public import proofs.«01_k».proof.Proof.ScaleRef
public import proofs.«01_k».proof.Proof.Gen.ReferenceIdeal.Read
public import Idealize.ShloMosaic.Lib.Pipeline.ValueKit
public import Idealize.ShloMosaic.Lib.Pointwise

/-! The reference's host arithmetic before its kernel region, entry by entry. -/

@[expose] public section

set_option maxRecDepth 16384

noncomputable section

open Idealize.ShloMosaic Idealize.ShloMosaic.TcCoe Idealize.SL.Sem
open Cert.ReferenceIdeal Cert.ReferenceIdeal.Gen

namespace Cert.ReferenceIdeal.Quant
open Cert.Proof.Spec

/-- the rows of `x` -/
def rowsR (x : FVec Ideal S8x3072x3328 .bf16) : FVec Ideal S24576x3328 .bf16 := shapeCast S24576x3328 x (by decide)

def groupsR (x : FVec Ideal S8x3072x3328 .bf16) : FVec Ideal S24576x52x64 .f32 :=
  shapeCast S24576x52x64 (extf .f32 x bitsLt_bf16_f32) shapeCasts_S8x3072x3328_S24576x52x64

def quotR (x : FVec Ideal S8x3072x3328 .bf16) : FVec Ideal S24576x52 .f32 :=
  mulf (Host.reduce FloatOps.maximumf (Host.absf (groupsR x)) (constant S_ .f32 0xFF800000#32) reducesTo_S24576x52x64_S24576x52_d2 h_S_)
    (broadcastInDim S24576x52 ![] bcast_S_S24576x52 (constant S_ .f32 0x3B124925#32))

def powersR : FVec Ideal S253 .f32 :=
  Host.powf (broadcastInDim S253 ![] bcast_S_S253 (constant S_ .f32 0x40000000#32))
    (subf (sitofp .f32 (iotaInDim S253 32 0)) (broadcastInDim S253 ![] bcast_S_S253 (constant S_ .f32 0x42FA0000#32)))

def candsR (q : FVec Ideal S24576x52 .f32) : FVec Ideal S24576x52x253 .f32 :=
  select (cmpf .ogt (broadcastInDim S24576x52x253 ![0, 1, 2] bcast_S1x1x253_S24576x52x253_0_1_2 (broadcastInDim S1x1x253 ![2] bcast_S253_S1x1x253_2 powersR))
      (broadcastInDim S24576x52x253 ![0, 1, 2] bcast_S24576x52x1_S24576x52x253_0_1_2 (broadcastInDim S24576x52x1 ![0, 1] bcast_S24576x52_S24576x52x1_0_1 q)))
    (broadcastInDim S24576x52x253 ![2] bcast_S253_S24576x52x253_2 powersR)
    (broadcastInDim S24576x52x253 ![] bcast_S_S24576x52x253 (id (constant S_ .f32 0x7F800000#32)))

def scaleR (q : FVec Ideal S24576x52 .f32) : FVec Ideal S24576x52 .f32 :=
  select (cmpf .olt q (broadcastInDim S24576x52 ![] bcast_S_S24576x52 (constant S_ .f32 0x00800000#32)))
    (broadcastInDim S24576x52 ![] bcast_S_S24576x52 (id (constant S_ .f32 0x3F800000#32)))
    (Host.reduce FloatOps.minimumf (candsR q) (constant S_ .f32 0x7F800000#32) reducesTo_S24576x52x253_S24576x52_d2 h_S_)

def clippedR (g : FVec Ideal S24576x52x64 .f32) (s : FVec Ideal S24576x52 .f32) : FVec Ideal S24576x52x64 .f32 :=
  minimumf (broadcastInDim S24576x52x64 ![] bcast_S_S24576x52x64 (id (constant S_ .f32 0x43E00000#32)))
    (maximumf (broadcastInDim S24576x52x64 ![] bcast_S_S24576x52x64 (id (constant S_ .f32 0xC3E00000#32)))
      (mulf g (broadcastInDim S24576x52x64 ![0, 1, 2] bcast_S24576x52x1_S24576x52x64_0_1_2
        (broadcastInDim S24576x52x1 ![0, 1] bcast_S24576x52_S24576x52x1_0_1
          (Host.divf (broadcastInDim S24576x52 ![] bcast_S_S24576x52 (constant S_ .f32 0x3F800000#32)) s)))))

theorem groupsR_at (x : FVec Ideal S8x3072x3328 .bf16) (r : Fin 24576) (g : Fin 52) (d : Fin 64) :
    (groupsR x (ix3 r g d) : EReal) = group (R := 24576) (rowsR x) r g d := by
  have e : groupsR x = (shapeCast S24576x52x64 (rowsR x) shapeCasts_S24576x3328_S24576x52x64 : S24576x52x64.Idx → EReal) := by
    exact (shapeCast_comp (α := EReal) x (by decide) shapeCasts_S24576x3328_S24576x52x64).symm
  rw [e]
  refine (Read.val_main_v30_apply (F := Ideal) (rowsR x) (ix3 r g d)).trans ?_
  unfold group
  refine congrArg (rowsR x) ?_
  funext a
  match a with
  | ⟨0, _⟩ => apply Fin.ext; show ((r.val * 52 + g.val) * 64 + d.val) / 3328 = r.val; omega
  | ⟨1, _⟩ => apply Fin.ext; show ((r.val * 52 + g.val) * 64 + d.val) % 3328 = 64 * g.val + d.val; omega

theorem reduces64 : S24576x52x64.Reduces [2] S24576x52 := by decide
theorem reduces253 : S24576x52x253.Reduces [2] S24576x52 := by decide

theorem lift64 (r : Fin 24576) (g : Fin 52) (d : Fin 64) : reduces64.lift (ix2 r g) d = ix3 r g d := by
  funext a
  match a with
  | ⟨0, _⟩ => rfl
  | ⟨1, _⟩ => rfl
  | ⟨2, _⟩ => rfl

theorem lift253 (r : Fin 24576) (g : Fin 52) (d : Fin 253) : reduces253.lift (ix2 r g) d = ix3 r g d := by
  funext a
  match a with
  | ⟨0, _⟩ => rfl
  | ⟨1, _⟩ => rfl
  | ⟨2, _⟩ => rfl

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩
instance : Std.Commutative (FloatOps.minimumf (F := Ideal) (φ := .f32)) := ⟨fun a b => min_comm (α := EReal) a b⟩
instance : Std.Associative (FloatOps.minimumf (F := Ideal) (φ := .f32)) := ⟨fun a b c => min_assoc (α := EReal) a b c⟩

theorem reduce_max (v : FVec Ideal S24576x52x64 .f32) (r : Fin 24576) (g : Fin 52) :
    (Host.reduce (α := Ideal .f32) FloatOps.maximumf v (constant (F := Ideal) S_ .f32 0xFF800000#32) reducesTo_S24576x52x64_S24576x52_d2 h_S_ (ix2 r g) : EReal) = ⨆ d : Fin 64, (v (ix3 r g d) : EReal) := by
  refine (Host.reduce_eq_fold_single (α := Ideal .f32) (FloatOps.maximumf (F := Ideal) (φ := .f32)) v (constant (F := Ideal) S_ .f32 0xFF800000#32) reducesTo_S24576x52x64_S24576x52_d2 reduces64 h_S_ (ix2 r g)).trans ?_
  refine eq_of_forall_ge_iff fun b => ?_
  refine Iff.trans (Finset.fold_max_le (β := EReal) b) ?_
  rw [iSup_le_iff]
  have e : (constant (F := Ideal) S_ .f32 0xFF800000#32 (Shape.Idx.first h_S_) : EReal) ≤ b := by
    show Ideal.ofBits .f32 0xFF800000#32 ≤ b
    rw [ninf_eq]; exact bot_le
  constructor
  · intro h d
    have := h.2 d (Finset.mem_univ _)
    exact (congrArg (fun i => (v i : EReal)) (lift64 r g d)).symm.trans_le this
  · intro h
    refine ⟨e, fun d _ => ?_⟩
    rw [Function.comp_apply]
    exact (congrArg (fun i => (v i : EReal)) (lift64 r g d)).trans_le (h d)

theorem reduce_min (v : FVec Ideal S24576x52x253 .f32) (r : Fin 24576) (g : Fin 52) :
    (Host.reduce (α := Ideal .f32) FloatOps.minimumf v (constant (F := Ideal) S_ .f32 0x7F800000#32) reducesTo_S24576x52x253_S24576x52_d2 h_S_ (ix2 r g) : EReal) = ⨅ d : Fin 253, (v (ix3 r g d) : EReal) := by
  refine (Host.reduce_eq_fold_single (α := Ideal .f32) (FloatOps.minimumf (F := Ideal) (φ := .f32)) v (constant (F := Ideal) S_ .f32 0x7F800000#32) reducesTo_S24576x52x253_S24576x52_d2 reduces253 h_S_ (ix2 r g)).trans ?_
  refine eq_of_forall_le_iff fun b => ?_
  refine Iff.trans (Finset.le_fold_min (β := EReal) b) ?_
  rw [le_iInf_iff]
  have e : b ≤ (constant (F := Ideal) S_ .f32 0x7F800000#32 (Shape.Idx.first h_S_) : EReal) := by
    show b ≤ Ideal.ofBits .f32 0x7F800000#32
    rw [inf_eq]; exact le_top
  constructor
  · intro h d
    have := h.2 d (Finset.mem_univ _)
    exact le_of_le_of_eq (α := EReal) this (congrArg (fun i => (v i : EReal)) (lift253 r g d))
  · intro h
    refine ⟨e, fun d _ => ?_⟩
    rw [Function.comp_apply]
    exact (h d).trans_eq (congrArg (fun i => (v i : EReal)) (lift253 r g d)).symm

theorem mul_const_at (A : FVec Ideal S24576x52 .f32) (w : BitVec 32) (i : S24576x52.Idx) :
    (mulf A (broadcastInDim S24576x52 ![] bcast_S_S24576x52 (constant S_ .f32 w)) i : EReal) = (A i : EReal) * Ideal.ofBits .f32 w := rfl

theorem absf_at (A : FVec Ideal S24576x52x64 .f32) (i : S24576x52x64.Idx) : (Host.absf A i : EReal) = max (A i : EReal) (-(A i : EReal)) := rfl

theorem quotR_at (x : FVec Ideal S8x3072x3328 .bf16) (r : Fin 24576) (g : Fin 52) :
    (quotR x (ix2 r g) : EReal) = quot (group (R := 24576) (rowsR x) r g) := by
  unfold quot quotR
  refine (mul_const_at _ _ _).trans ?_
  rw [reduce_max (Host.absf (groupsR x)) r g]
  refine congrArg (fun a : EReal => a * _) (iSup_congr fun d => ?_)
  rw [absf_at, groupsR_at]

theorem powersR_at (i : Fin 253) : (powersR (ix1 i) : EReal) = power i.val := by
  have e : (sitofp (F := Ideal) .f32 (iotaInDim S253 32 0) (ix1 i) : EReal) = ((i.val : ℝ) : EReal) := by
    show (((BitVec.ofNat 32 i.val).toInt : ℝ) : EReal) = _
    have : (BitVec.ofNat 32 i.val).toInt = (i.val : ℤ) := by
      have h : ∀ j : Fin 253, (BitVec.ofNat 32 j.val).toInt = (j.val : ℤ) := by decide +kernel
      exact h i
    rw [this]; norm_num
  rw [← pow_eq, ← e]
  rfl

theorem bcast_last (p : FVec Ideal S253 .f32) (r : Fin 24576) (g : Fin 52) (i : Fin 253) :
    broadcastInDim S24576x52x253 ![2] bcast_S253_S24576x52x253_2 p (ix3 r g i) = p (ix1 i) :=
  broadcastInDim_apply _ _ p _ _ (fun a => match a with
    | ⟨0, _⟩ => by show i.val = if (253 : Nat) = 1 then 0 else i.val; rw [if_neg (by decide)])

theorem bcast_last' (p : FVec Ideal S253 .f32) (r : Fin 24576) (g : Fin 52) (i : Fin 253) :
    broadcastInDim S24576x52x253 ![0, 1, 2] bcast_S1x1x253_S24576x52x253_0_1_2 (broadcastInDim S1x1x253 ![2] bcast_S253_S1x1x253_2 p) (ix3 r g i) = p (ix1 i) :=
  (broadcastInDim_apply _ _ _ _ (ix3 (n0 := 1) (n1 := 1) (n2 := 253) 0 0 i) (fun a => match a with
    | ⟨0, _⟩ => by show 0 = if (1 : Nat) = 1 then 0 else r.val; rw [if_pos rfl]
    | ⟨1, _⟩ => by show 0 = if (1 : Nat) = 1 then 0 else g.val; rw [if_pos rfl]
    | ⟨2, _⟩ => by show i.val = if (253 : Nat) = 1 then 0 else i.val; rw [if_neg (by decide)])).trans
  (broadcastInDim_apply _ _ p _ _ (fun a => match a with
    | ⟨0, _⟩ => by show i.val = if (253 : Nat) = 1 then 0 else i.val; rw [if_neg (by decide)]))

theorem bcast_first (q : FVec Ideal S24576x52 .f32) (r : Fin 24576) (g : Fin 52) :
    broadcastInDim S24576x52x1 ![0, 1] bcast_S24576x52_S24576x52x1_0_1 q (ix3 r g (0 : Fin 1)) = q (ix2 r g) :=
  broadcastInDim_apply _ _ q _ _ (fun a => match a with
    | ⟨0, _⟩ => by show r.val = if (24576 : Nat) = 1 then 0 else r.val; rw [if_neg (by decide)]
    | ⟨1, _⟩ => by show g.val = if (52 : Nat) = 1 then 0 else g.val; rw [if_neg (by decide)])

theorem bcast_253 (q : FVec Ideal S24576x52 .f32) (r : Fin 24576) (g : Fin 52) (i : Fin 253) :
    broadcastInDim S24576x52x253 ![0, 1, 2] bcast_S24576x52x1_S24576x52x253_0_1_2 (broadcastInDim S24576x52x1 ![0, 1] bcast_S24576x52_S24576x52x1_0_1 q) (ix3 r g i) = q (ix2 r g) :=
  (broadcastInDim_apply _ _ _ _ (ix3 r g (0 : Fin 1)) (fun a => match a with
    | ⟨0, _⟩ => by show r.val = if (24576 : Nat) = 1 then 0 else r.val; rw [if_neg (by decide)]
    | ⟨1, _⟩ => by show g.val = if (52 : Nat) = 1 then 0 else g.val; rw [if_neg (by decide)]
    | ⟨2, _⟩ => by show 0 = if (1 : Nat) = 1 then 0 else i.val; rw [if_pos rfl])).trans (bcast_first q r g)

theorem bcast_64 (q : FVec Ideal S24576x52 .f32) (r : Fin 24576) (g : Fin 52) (i : Fin 64) :
    broadcastInDim S24576x52x64 ![0, 1, 2] bcast_S24576x52x1_S24576x52x64_0_1_2 (broadcastInDim S24576x52x1 ![0, 1] bcast_S24576x52_S24576x52x1_0_1 q) (ix3 r g i) = q (ix2 r g) :=
  (broadcastInDim_apply _ _ _ _ (ix3 r g (0 : Fin 1)) (fun a => match a with
    | ⟨0, _⟩ => by show r.val = if (24576 : Nat) = 1 then 0 else r.val; rw [if_neg (by decide)]
    | ⟨1, _⟩ => by show g.val = if (52 : Nat) = 1 then 0 else g.val; rw [if_neg (by decide)]
    | ⟨2, _⟩ => by show 0 = if (1 : Nat) = 1 then 0 else i.val; rw [if_pos rfl])).trans (bcast_first q r g)

theorem select_ogt (a b c d : EReal) : (Scalar.select (Ideal.cmp .ogt a b) c d : EReal) = if b < a then c else d := by
  by_cases h : b < a <;> simp [Ideal.cmp, Scalar.select, h]

theorem select_olt (a b c d : EReal) : (Scalar.select (Ideal.cmp .olt a b) c d : EReal) = if a < b then c else d := by
  by_cases h : a < b <;> simp [Ideal.cmp, Scalar.select, h]

theorem candsR_at (q : FVec Ideal S24576x52 .f32) (r : Fin 24576) (g : Fin 52) (i : Fin 253) :
    (candsR q (ix3 r g i) : EReal) = if (q (ix2 r g) : EReal) < power i.val then power i.val else ⊤ := by
  unfold candsR
  refine (select_ogt _ _ _ _).trans ?_
  rw [bcast_253 q r g i, bcast_last powersR r g i, bcast_last' powersR r g i, powersR_at, ← inf_eq]
  rfl

theorem scaleR_at (q : FVec Ideal S24576x52 .f32) (r : Fin 24576) (g : Fin 52) :
    (scaleR q (ix2 r g) : EReal) = refScale (q (ix2 r g)) := by
  unfold scaleR refScale
  refine (select_olt _ _ _ _).trans ?_
  rw [reduce_min]
  simp only [candsR_at]
  rfl

theorem clippedR_at (G : FVec Ideal S24576x52x64 .f32) (s : FVec Ideal S24576x52 .f32) (r : Fin 24576) (g : Fin 52) (d : Fin 64) :
    (clippedR G s (ix3 r g d) : EReal) = min (Ideal.ofBits .f32 0x43E00000#32) (max (Ideal.ofBits .f32 0xC3E00000#32) ((G (ix3 r g d) : EReal) * Ideal.div (Ideal.ofBits .f32 0x3F800000#32) (s (ix2 r g)))) := by
  unfold clippedR
  have e := bcast_64 (Host.divf (broadcastInDim S24576x52 ![] bcast_S_S24576x52 (constant S_ .f32 0x3F800000#32)) s) r g d
  refine Eq.trans (b := (min (Ideal.ofBits .f32 0x43E00000#32) (max (Ideal.ofBits .f32 0xC3E00000#32) ((G (ix3 r g d) : EReal) * (broadcastInDim S24576x52x64 ![0, 1, 2] bcast_S24576x52x1_S24576x52x64_0_1_2
        (broadcastInDim S24576x52x1 ![0, 1] bcast_S24576x52_S24576x52x1_0_1
          (Host.divf (broadcastInDim S24576x52 ![] bcast_S_S24576x52 (constant S_ .f32 0x3F800000#32)) s)) (ix3 r g d)))) : EReal)) rfl ?_
  rw [e]
  rfl

end Cert.ReferenceIdeal.Quant

end
-- ==== Proof.ReferenceRun.lean ====
module

public import proofs.«01_k».proof.Proof.Reference
public import proofs.«01_k».proof.Proof.Gen.ReferenceIdeal.Run

/-! What the reference's kernel region is given and what it leaves: only format changes, so each of its
    arrays is one of its operands. -/

@[expose] public section

set_option maxRecDepth 16384

noncomputable section

open Idealize.ShloMosaic Idealize.ShloMosaic.TcCoe Idealize.SL.Sem Idealize.ShloMosaic.StableHlo
open Cert.ReferenceIdeal Cert.ReferenceIdeal.Gen

namespace Cert.ReferenceIdeal.Quant
open Cert.Proof.Spec

variable (m : (ℓ : Loc nD τ sig) → Buf (Elt Ideal) ℓ) (c : Dev nD)

set_option maxHeartbeats 4000000 in
theorem entry_v28 : V m c main_v28 = shapeCast S24576x3328 (clippedR (groupsR (m ((c.tc : Thread nD τ).loc main_arg0))) (scaleR (quotR (m ((c.tc : Thread nD τ).loc main_arg0))))) shapeCasts_S24576x52x64_S24576x3328 := by
  show Gen.V0 m c (Proc.devRef .tc main_v28) = _
  simp only [Gen.V0, Gen.hostOps0, Gen.hostOps0_1, Gen.hostOps0_2, Gen.hostOps0_3, Gen.hostOps0_4, Gen.hostOps0_5, Gen.hostOps0_6, TRef.binary, TRef.ternary, TRef.unary, TRef.toBuf, TRef.ofBuf, cast_eq, List.flatten_cons, List.flatten_nil, List.append_nil, List.cons_append, List.nil_append]
  after_results_simp <;> rfl

theorem whole : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) := (by decide +kernel : ∀ t : Fin grid0.N, _)

theorem block_v28 (t : Fin cfg0.N) : (iblk m c 0 t : S24576x3328.Idx → EReal) = V m c main_v28 := by
  obtain ⟨⟨e0, e1⟩, -⟩ := whole t
  funext y
  show V m c main_v28 (((cfg0.win 0).blk t).view.emb y) = V m c main_v28 y
  congr 1
  funext a
  match a with
  | ⟨0, _⟩ => apply Fin.ext; show ((((cfg0.win 0).blk t).view.emb y) 0).val = _; blk_simp [e0, e1]; try rfl
  | ⟨1, _⟩ => apply Fin.ext; show ((((cfg0.win 0).blk t).view.emb y) 1).val = _; blk_simp [e0, e1]; try rfl

theorem block_weights (t : Fin cfg0.N) : (iblk m c 1 t : S4992x3328.Idx → EReal) = V m c main_arg1 := by
  obtain ⟨-, ⟨e0, e1⟩, -⟩ := whole t
  funext y
  show V m c main_arg1 (((cfg0.win 1).blk t).view.emb y) = V m c main_arg1 y
  congr 1
  funext a
  match a with
  | ⟨0, _⟩ => apply Fin.ext; show ((((cfg0.win 1).blk t).view.emb y) 0).val = _; blk_simp [e0, e1]; try rfl
  | ⟨1, _⟩ => apply Fin.ext; show ((((cfg0.win 1).blk t).view.emb y) 1).val = _; blk_simp [e0, e1]; try rfl

theorem out2_eq (x0 : Vec Ideal S24576x3328 .f32) (x1 : Vec Ideal S4992x3328 .fp8e4m3) : (out0_2 x0 x1 : S24576x3328.Idx → EReal) = x0 := by
  funext y
  unfold out0_2
  frame_out
  rw [k0_pay1, shapeCast_self]
  rfl

theorem out3_eq (x0 : Vec Ideal S24576x3328 .f32) (x1 : Vec Ideal S4992x3328 .fp8e4m3) : (out0_3 x0 x1 : S24576x3328.Idx → EReal) = x0 := by
  funext y
  unfold out0_3
  frame_out
  rw [k0_pay2, k0_pay1, shapeCast_self]
  rfl

theorem out4_eq (x0 : Vec Ideal S24576x3328 .f32) (x1 : Vec Ideal S4992x3328 .fp8e4m3) : (out0_4 x0 x1 : S4992x3328.Idx → EReal) = x1 := by
  funext y
  unfold out0_4
  frame_out
  rw [k0_pay3]
  rfl

theorem region_codes : (Value.reg_main_v29_0 m c : S24576x3328.Idx → EReal) = V m c main_v28 := by
  refine (dats m 0 c).arrAt_eq_of_covers 2 _ (by decide +kernel) fun t hf y => ?_
  obtain ⟨-, -, ⟨e0, e1⟩, -⟩ := whole t
  have h0 : ((((cfg0.win 2).blk t).view.emb y) 0).val = (y 0).val := by blk_simp [e0, e1]; try omega
  have h1 : ((((cfg0.win 2).blk t).view.emb y) 1).val = (y 1).val := by blk_simp [e0, e1]; try omega
  generalize ((cfg0.win 2).blk t).view.emb y = z at h0 h1
  have e : z = y := by funext a; match a with | ⟨0, _⟩ => exact Fin.ext h0 | ⟨1, _⟩ => exact Fin.ext h1
  blk_simp
  rw [after0_2, out2_eq, block_v28]
  exact congrArg (V m c main_v28) e.symm

theorem region_codes' : (Value.reg_main_v29_1 m c : S24576x3328.Idx → EReal) = V m c main_v28 := by
  refine (dats m 0 c).arrAt_eq_of_covers 3 _ (by decide +kernel) fun t hf y => ?_
  obtain ⟨-, -, -, ⟨e0, e1⟩, -⟩ := whole t
  have h0 : ((((cfg0.win 3).blk t).view.emb y) 0).val = (y 0).val := by blk_simp [e0, e1]; try omega
  have h1 : ((((cfg0.win 3).blk t).view.emb y) 1).val = (y 1).val := by blk_simp [e0, e1]; try omega
  generalize ((cfg0.win 3).blk t).view.emb y = z at h0 h1
  have e : z = y := by funext a; match a with | ⟨0, _⟩ => exact Fin.ext h0 | ⟨1, _⟩ => exact Fin.ext h1
  blk_simp
  rw [after0_3, out3_eq, block_v28]
  exact congrArg (V m c main_v28) e.symm

theorem region_weights : (Value.reg_main_v29_2 m c : S4992x3328.Idx → EReal) = V m c main_arg1 := by
  refine (dats m 0 c).arrAt_eq_of_covers 4 _ (by decide +kernel) fun t hf y => ?_
  obtain ⟨-, -, -, -, ⟨e0, e1⟩⟩ := whole t
  have h0 : ((((cfg0.win 4).blk t).view.emb y) 0).val = (y 0).val := by blk_simp [e0, e1]; try omega
  have h1 : ((((cfg0.win 4).blk t).view.emb y) 1).val = (y 1).val := by blk_simp [e0, e1]; try omega
  generalize ((cfg0.win 4).blk t).view.emb y = z at h0 h1
  have e : z = y := by funext a; match a with | ⟨0, _⟩ => exact Fin.ext h0 | ⟨1, _⟩ => exact Fin.ext h1
  blk_simp
  rw [after0_4, out4_eq, block_weights]
  exact congrArg (V m c main_arg1) e.symm

end Cert.ReferenceIdeal.Quant

end
-- ==== Proof.Finite.lean ====
module

public import proofs.«01_k».proof.Proof.ScaleRef
public import proofs.«01_k».proof.Proof.Gen.Pre_finite
public import Idealize.ShloMosaic.Lib.Pointwise

/-! The precondition, entry by entry: no magnitude exceeds the largest finite number. -/

@[expose] public section

set_option maxRecDepth 16384

noncomputable section

open Idealize.ShloMosaic Idealize.ShloMosaic.TcCoe Idealize.SL.Sem

namespace Cert.Proof.Finite
open Cert.Proof.Spec Cert.Pre_finite

theorem cmp_open (x : FVec Ideal S8x3072x3328 .f32) (w : BitVec 32) (h) (i : S8x3072x3328.Idx) :
    (cmpf .ole (Host.absf x) (broadcastInDim S8x3072x3328 ![] h (constant S_ .f32 w)) i) = Ideal.cmp .ole (max (x i : EReal) (-(x i : EReal))) (Ideal.ofBits .f32 w) := rfl

theorem cmp_ole (a b : EReal) (h : Ideal.cmp .ole a b = 1#1) : a ≤ b := by
  by_contra hn
  simp [Ideal.cmp, hn] at h

theorem le_limit (x : FVec Ideal S8x3072x3328 .bf16) (w s) (h : fn (F := Ideal) x w s = fun _ => 1#1) (i : S8x3072x3328.Idx) :
    max (x i : EReal) (-(x i : EReal)) ≤ limit := by
  have e := congrFun h i
  unfold fn at e
  exact cmp_ole _ _ ((cmp_open (extf .f32 x Facts.bitsLt_bf16_f32) _ _ i).symm.trans e)

/-- every group of the rows of a finite array is finite -/
theorem group_le (x : FVec Ideal S8x3072x3328 .bf16) (w s) (h : fn (F := Ideal) x w s = fun _ => 1#1) (hc) (r : Fin 24576) (g : Fin 52) (d : Fin 64) :
    max (group (R := 24576) (shapeCast ⟨2, ![24576, 3328]⟩ x hc) r g d) (-(group (R := 24576) (shapeCast ⟨2, ![24576, 3328]⟩ x hc) r g d)) ≤ limit := le_limit x w s h _
end Cert.Proof.Finite

end
-- ==== Proof.ReferenceValue.lean ====
module

public import proofs.«01_k».proof.Proof.ReferenceRun
public import proofs.«01_k».proof.Proof.Finite

/-! The reference's three results on finite rows. -/

@[expose] public section

set_option maxRecDepth 16384

noncomputable section

open Idealize.ShloMosaic Idealize.ShloMosaic.TcCoe Idealize.SL.Sem Idealize.ShloMosaic.StableHlo
open Cert.ReferenceIdeal Cert.ReferenceIdeal.Gen

namespace Cert.ReferenceIdeal.Quant
open Cert.Proof.Spec

/-- every entry of the array is finite -/
def FiniteRows (x : FVec Ideal S8x3072x3328 .bf16) : Prop :=
  ∀ (r : Fin 24576) (g : Fin 52) (d : Fin 64), max (group (R := 24576) (rowsR x) r g d) (-(group (R := 24576) (rowsR x) r g d)) ≤ limit

theorem scales_eq (x : FVec Ideal S8x3072x3328 .bf16) (h : FiniteRows x) : (scaleR (quotR x) : S24576x52.Idx → EReal) = scales (R := 24576) (rowsR x) := by
  funext y
  obtain ⟨r, g, rfl⟩ : ∃ (r : Fin 24576) (g : Fin 52), y = ix2 r g := ⟨y 0, y 1, by funext a; match a with | ⟨0, _⟩ => rfl | ⟨1, _⟩ => rfl⟩
  rw [scaleR_at, quotR_at]
  exact (refScale_eq _ (h r g)).1

theorem flat_at (v : FVec Ideal S24576x52x64 .f32) (y : S24576x3328.Idx) : shapeCast S24576x3328 v shapeCasts_S24576x52x64_S24576x3328 y =
    v (ix3 (y 0) (⟨(y 1).val / 64, by have : (y 1).val < 3328 := (y 1).isLt; omega⟩ : Fin 52) (⟨(y 1).val % 64, by omega⟩ : Fin 64)) :=
  shapeCast_apply v _ y _ (by
    rewrite [Shape.rowMajor_val_three, Shape.rowMajor_val_two]
    have h0 : (y 0).val < 24576 := (y 0).isLt
    have h1 : (y 1).val < 3328 := (y 1).isLt
    show ((y 0).val * 52 + (y 1).val / 64) * 64 + (y 1).val % 64 = (y 0).val * 3328 + (y 1).val
    omega)

theorem codes_eq (x : FVec Ideal S8x3072x3328 .bf16) (h : FiniteRows x) :
    (shapeCast S24576x3328 (clippedR (groupsR x) (scaleR (quotR x))) shapeCasts_S24576x52x64_S24576x3328 : S24576x3328.Idx → EReal) = codes (R := 24576) (rowsR x) := by
  funext y
  obtain ⟨r, k, rfl⟩ : ∃ (r : Fin 24576) (k : Fin 3328), y = ix2 r k := ⟨y 0, y 1, by funext a; match a with | ⟨0, _⟩ => rfl | ⟨1, _⟩ => rfl⟩
  refine (flat_at _ (ix2 r k)).trans ?_
  show (clippedR (groupsR x) (scaleR (quotR x)) (ix3 r (⟨k.val / 64, by omega⟩ : Fin 52) (⟨k.val % 64, by omega⟩ : Fin 64)) : EReal) = _
  rw [clippedR_at, groupsR_at, scaleR_at, quotR_at, (refScale_eq _ (h _ _)).1, (refScale_eq _ (h _ _)).2, hi_eq, lo_eq]
  unfold codes code groupAt
  have e : group (R := 24576) (rowsR x) r ⟨k.val / 64, by omega⟩ ⟨k.val % 64, by omega⟩ = rowsR x (ix2 r k) := by
    unfold group
    refine congrArg (rowsR x) ?_
    funext a
    match a with
    | ⟨0, _⟩ => rfl
    | ⟨1, _⟩ => apply Fin.ext; show 64 * (k.val / 64) + k.val % 64 = k.val; omega
  exact congrArg (fun a : EReal => min _ (max _ (a * _))) e

theorem side_at (r1 : FVec Ideal S24576x3328 .bf16) (e0 : FVec Ideal S24576x52 .f32) (r : Fin 24576) (k : Fin 3328) :
    (Read.val_main_v35 (F := Ideal) r1 e0 (ix2 r k) : EReal) = (r1 (ix2 r k) : EReal) * (e0 (ix2 r (⟨k.val / 64, by omega⟩ : Fin 52)) : EReal) := by
  rw [Read.val_main_v35_apply, Read.val_main_v34_apply, Read.val_main_v30_apply, Read.val_main_v33_apply, Read.val_main_v32_apply, Read.val_main_v31_apply]
  refine congrArg₂ (fun a b : EReal => a * b) (congrArg r1 ?_) (congrArg e0 ?_)
  · funext a
    match a with
    | ⟨0, _⟩ => apply Fin.ext; show (((r.val * 3328 + k.val) / 3328 * 52 + (r.val * 3328 + k.val) / 64 % 52) * 64 + (r.val * 3328 + k.val) % 64) / 3328 = r.val; omega
    | ⟨1, _⟩ => apply Fin.ext; show (((r.val * 3328 + k.val) / 3328 * 52 + (r.val * 3328 + k.val) / 64 % 52) * 64 + (r.val * 3328 + k.val) % 64) % 3328 = k.val; omega
  · funext a
    match a with
    | ⟨0, _⟩ => apply Fin.ext; show (r.val * 3328 + k.val) / 3328 = r.val; omega
    | ⟨1, _⟩ => apply Fin.ext; show (r.val * 3328 + k.val) / 64 % 52 = k.val / 64; omega

theorem weight_at (x2 : FVec Ideal S4992x52 .f32) (r2 : FVec Ideal S4992x3328 .bf16) (r : Fin 4992) (k : Fin 3328) :
    (Read.val_main_v41 (F := Ideal) x2 r2 (ix2 r k) : EReal) = (r2 (ix2 r k) : EReal) * (x2 (ix2 r (⟨k.val / 64, by omega⟩ : Fin 52)) : EReal) := by
  rw [Read.val_main_v41_apply, Read.val_main_v40_apply, Read.val_main_v36_apply, Read.val_main_v39_apply, Read.val_main_v38_apply, Read.val_main_v37_apply]
  refine congrArg₂ (fun a b : EReal => a * b) (congrArg r2 ?_) (congrArg x2 ?_)
  · funext a
    match a with
    | ⟨0, _⟩ => apply Fin.ext; show (((r.val * 3328 + k.val) / 3328 * 52 + (r.val * 3328 + k.val) / 64 % 52) * 64 + (r.val * 3328 + k.val) % 64) / 3328 = r.val; omega
    | ⟨1, _⟩ => apply Fin.ext; show (((r.val * 3328 + k.val) / 3328 * 52 + (r.val * 3328 + k.val) / 64 % 52) * 64 + (r.val * 3328 + k.val) % 64) % 3328 = k.val; omega
  · funext a
    match a with
    | ⟨0, _⟩ => apply Fin.ext; show (r.val * 3328 + k.val) / 3328 = r.val; omega
    | ⟨1, _⟩ => apply Fin.ext; show (r.val * 3328 + k.val) / 64 % 52 = k.val / 64; omega

theorem product_at (x2 : FVec Ideal S4992x52 .f32) (r1 : FVec Ideal S24576x3328 .bf16) (r2 : FVec Ideal S4992x3328 .bf16) (e0 : FVec Ideal S24576x52 .f32) (i : S24576x4992.Idx) :
    (Read.val_main_v43 (F := Ideal) x2 r1 r2 e0 i : EReal) = ∑ k : Fin 3328, ((r1 (ix2 (i 0) k) : EReal) * (e0 (ix2 (i 0) (⟨k.val / 64, by omega⟩ : Fin 52)) : EReal)) *
      ((r2 (ix2 (i 1) k) : EReal) * (x2 (ix2 (i 1) (⟨k.val / 64, by omega⟩ : Fin 52)) : EReal)) := by
  refine (Read.val_main_v42_apply x2 r1 r2 e0 i).trans (Finset.sum_congr rfl fun k _ => ?_)
  have el : Read.lidx_main_v42 i k = ix2 (i 0) k := by funext a; match a with | ⟨0, _⟩ => rfl | ⟨1, _⟩ => rfl
  have er : Read.ridx_main_v42 i k = ix2 (i 1) k := by funext a; match a with | ⟨0, _⟩ => rfl | ⟨1, _⟩ => rfl
  rw [el, er]
  exact congrArg₂ (fun a b : EReal => a * b) (side_at r1 e0 (i 0) k) (weight_at x2 r2 (i 1) k)

/-- the product of the reference's codes and scales with its weights -/
theorem product_eq (x : FVec Ideal S8x3072x3328 .bf16) (w : FVec Ideal S4992x3328 .bf16) (s : FVec Ideal S4992x52 .f32) :
    (Read.val_main_v43 (F := Ideal) s (codes (R := 24576) (rowsR x)) w (scales (R := 24576) (rowsR x)) : S24576x4992.Idx → EReal) = product (R := 24576) (rowsR x) w s :=
  funext fun i => (product_at s (codes (R := 24576) (rowsR x)) w (scales (R := 24576) (rowsR x)) i).trans rfl

variable (m : (ℓ : Loc nD τ sig) → Buf (Elt Ideal) ℓ) (c : Dev nD)

theorem codes_result (h : FiniteRows (m ((c.tc : Thread nD τ).loc main_arg0))) :
    (V m c main_v28 : S24576x3328.Idx → EReal) = codes (R := 24576) (rowsR (m ((c.tc : Thread nD τ).loc main_arg0))) :=
  (entry_v28 m c).trans (codes_eq _ h)

theorem product_result (h : FiniteRows (m ((c.tc : Thread nD τ).loc main_arg0))) :
    (Read.val_main_v43 (F := Ideal) (m ((c.tc : Thread nD τ).loc main_arg2)) (Value.reg_main_v29_1 m c) (Value.reg_main_v29_2 m c) (scaleR (quotR (m ((c.tc : Thread nD τ).loc main_arg0)))) : S24576x4992.Idx → EReal)
      = product (R := 24576) (rowsR (m ((c.tc : Thread nD τ).loc main_arg0))) (m ((c.tc : Thread nD τ).loc main_arg1)) (m ((c.tc : Thread nD τ).loc main_arg2)) := by
  have e1 := (region_codes' m c).trans (codes_result m c h)
  have e2 := (region_weights m c).trans (V_main_arg1 m c)
  have e3 := scales_eq _ h
  rw [e1, e2, e3]
  exact product_eq _ _ _
end Cert.ReferenceIdeal.Quant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Gen.ReferenceIdeal.Read
public import proofs.«01_k».proof.Proof.Gen.ReferenceIdeal.Run
public import proofs.«01_k».proof.Proof.KernelHost
public import proofs.«01_k».proof.Proof.ReferenceValue
public import Idealize.ShloMosaic.Adequacy
public import Idealize.ShloMosaic.Init

@[expose] public section

set_option maxRecDepth 16384

noncomputable section

namespace Cert.Proof

open Idealize.ShloMosaic Idealize.SL.Sem Cert.Kernel

/-- The rows of the two programs are the same reshape of the same argument, and they are finite. -/
theorem finite_rows (x : FVec Ideal ⟨3, ![8, 3072, 3328]⟩ .bf16) (w : FVec Ideal ⟨2, ![4992, 3328]⟩ .fp8e4m3) (s : FVec Ideal ⟨2, ![4992, 52]⟩ .f32)
    (h : Cert.Pre_finite.fn (F := Ideal) x w s = fun _ => 1#1) : Cert.ReferenceIdeal.Quant.FiniteRows x :=
  fun r g d => Finite.group_le x w s h _ r g d

/-- Over the extended reals, on finite inputs, the kernel and the reference end with the same three results. -/
theorem algebraic : algebraic_KernelIdeal_ReferenceIdeal_pre_finite := by
  intro m g m' g' hpre hargs
  refine ⟨fun c => Spec.product (R := 24576) (Cert.KernelIdeal.Quant.rowsK m c) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Spec.codes (R := 24576) (Cert.KernelIdeal.Quant.rowsK m c), fun c => Spec.scales (R := 24576) (Cert.KernelIdeal.Quant.rowsK m c), ?_, ?_⟩
  · refine (θ_run _ _ _).mono (fun r h c => ?_) (Cert.KernelIdeal.Value.run_blocks (F := Ideal) m g)
    obtain ⟨h0, h1, h2, ha⟩ := h c
    exact ⟨h0.trans (Cert.KernelIdeal.Quant.product_result m c), h1.trans (Cert.KernelIdeal.Quant.codes_final m c), h2.trans (Cert.KernelIdeal.Quant.scales_final m c), ha⟩
  · refine (θ_run _ _ _).mono (fun r h c => ?_) (Cert.ReferenceIdeal.Value.run (F := Ideal) m' g')
    obtain ⟨h0, h1, h2, ha⟩ := h c
    have hf := finite_rows _ _ _ (hpre c)
    rw [← (hargs c).1] at hf
    have e : Cert.KernelIdeal.Quant.rowsK m c = Cert.ReferenceIdeal.Quant.rowsR (m' ((c.tc : Thread Cert.ReferenceIdeal.nD Cert.ReferenceIdeal.τ).loc Cert.ReferenceIdeal.main_arg0)) := by
      rw [Cert.KernelIdeal.Quant.rowsK_eq, (hargs c).1]
      rfl
    refine ⟨?_, ?_, ?_, ha⟩
    · dsimp only
      rw [e, ← (hargs c).2.1, ← (hargs c).2.2]
      exact h0.trans (Cert.ReferenceIdeal.Quant.product_result m' c hf)
    · dsimp only
      rw [e]
      exact h1.trans ((Cert.ReferenceIdeal.Quant.region_codes m' c).trans (Cert.ReferenceIdeal.Quant.codes_result m' c hf))
    · dsimp only
      rw [e]
      exact h2.trans (Cert.ReferenceIdeal.Quant.scales_eq _ hf)

theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial, algebraic⟩

end Cert.Proof

end
